-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 512, 768]⟩ ⟨3, ![2, 4096, 768]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 512, 768]⟩ ⟨3, ![2, 4096, 768]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  bcast_S_S768x512 : S_.BroadcastsInDim S768x512 (![] : Fin 0 → Fin S768x512.rank)
  bcast_S_S2x512x8x64 : S_.BroadcastsInDim S2x512x8x64 (![] : Fin 0 → Fin S2x512x8x64.rank)

variable [Facts]

def fn {F : FTy → Type} [FloatOps F] (main_arg0 : FVec F S2x512x768 .f32) (main_arg1 : FVec F S768x512 .f32) (main_arg2 : FVec F S2x512x8x64 .f32) (main_arg3 : FVec F S2x512x8x64 .f32) (main_arg4 : FVec F S512x768 .f32) : IVec S2x512x768 1 × IVec S768x512 1 × IVec S2x512x8x64 1 :=
  let main_v0 : FVec F S2x512x768 .f32 := Host.absf main_arg0
  let main_cst : FVec F S_ .f32 := constant S_ .f32 0x7F800000#32
  let main_v1 : FVec F S2x512x768 .f32 := broadcastInDim S2x512x768 ![] bcast_S_S2x512x768 main_cst
  let main_v2 : IVec S2x512x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x512x8x64 .f32 := Host.absf main_arg2
  let main_cst_1 : FVec F S_ .f32 := constant S_ .f32 0x7F800000#32
  let main_v7 : FVec F S2x512x8x64 .f32 := broadcastInDim S2x512x8x64 ![] bcast_S_S2x512x8x64 main_cst_1
  let main_v8 : IVec S2x512x8x64 1 := cmpf .olt main_v6 main_v7
  (main_v2, main_v5, main_v8)
-- ==== Pre_finite_ReferenceIdeal.lean ====
abbrev S2x4096x768 : Shape := ⟨3, ![2, 4096, 768]⟩
abbrev S768x512 : Shape := ⟨2, ![768, 512]⟩
abbrev S2x4096x8x64 : Shape := ⟨4, ![2, 4096, 8, 64]⟩
abbrev S512x768 : Shape := ⟨2, ![512, 768]⟩
abbrev S_ : Shape := ⟨0, ![]⟩

class Facts : Prop where
  bcast_S_S2x4096x768 : S_.BroadcastsInDim S2x4096x768 (![] : Fin 0 → Fin S2x4096x768.rank)
  bcast_S_S768x512 : S_.BroadcastsInDim S768x512 (![] : Fin 0 → Fin S768x512.rank)
  bcast_S_S2x4096x8x64 : S_.BroadcastsInDim S2x4096x8x64 (![] : Fin 0 → Fin S2x4096x8x64.rank)

variable [Facts]

def fn {F : FTy → Type} [FloatOps F] (main_arg0 : FVec F S2x4096x768 .f32) (main_arg1 : FVec F S768x512 .f32) (main_arg2 : FVec F S2x4096x8x64 .f32) (main_arg3 : FVec F S2x4096x8x64 .f32) (main_arg4 : FVec F S512x768 .f32) : IVec S2x4096x768 1 × IVec S768x512 1 × IVec S2x4096x8x64 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_v3 : FVec F S768x512 .f32 := Host.absf main_arg1
  let main_cst_0 : FVec F S_ .f32 := constant S_ .f32 0x7F800000#32
  let main_v4 : FVec F S768x512 .f32 := broadcastInDim S768x512 ![] bcast_S_S768x512 main_cst_0
  let main_v5 : IVec S768x512 1 := cmpf .olt main_v3 main_v4
  let main_v6 : FVec F S2x4096x8x64 .f32 := Host.absf main_arg2
  let main_cst_1 : FVec F S_ .f32 := constant S_ .f32 0x7F800000#32
  let main_v7 : FVec F S2x4096x8x64 .f32 := broadcastInDim S2x4096x8x64 ![] bcast_S_S2x4096x8x64 main_cst_1
  let main_v8 : IVec S2x4096x8x64 1 := cmpf .olt main_v6 main_v7
  (main_v2, main_v5, main_v8)
-- ==== Kernel.lean ====
abbrev S2x512x768 : Shape := ⟨3, ![2, 512, 768]⟩
abbrev S768x512 : Shape := ⟨2, ![768, 512]⟩
abbrev S2x512x8x64 : Shape := ⟨4, ![2, 512, 8, 64]⟩
abbrev S512x768 : Shape := ⟨2, ![512, 768]⟩
abbrev S8x2x8x1024x64 : Shape := ⟨5, ![8, 2, 8, 1024, 64]⟩
abbrev S2x8x512x64 : Shape := ⟨4, ![2, 8, 512, 64]⟩
abbrev S7 : Shape := ⟨1, ![7]⟩
abbrev S_ : Shape := ⟨0, ![]⟩
abbrev S2x8x64x64 : Shape := ⟨4, ![2, 8, 64, 64]⟩
abbrev S1x2x8x64x64 : Shape := ⟨5, ![1, 2, 8, 64, 64]⟩
abbrev S1x512x768 : Shape := ⟨3, ![1, 512, 768]⟩
abbrev S512x512 : Shape := ⟨2, ![512, 512]⟩
abbrev S512x8x64 : Shape := ⟨3, ![512, 8, 64]⟩
abbrev S8x512x64 : Shape := ⟨3, ![8, 512, 64]⟩
abbrev S1x8x512x64 : Shape := ⟨4, ![1, 8, 512, 64]⟩
abbrev S1 : Shape := ⟨1, ![1]⟩
abbrev S1x2x8x1024x64 : Shape := ⟨5, ![1, 2, 8, 1024, 64]⟩
abbrev S2x8x1024x64 : Shape := ⟨4, ![2, 8, 1024, 64]⟩
abbrev S1x1x64x64 : Shape := ⟨4, ![1, 1, 64, 64]⟩
abbrev S64x64 : Shape := ⟨2, ![64, 64]⟩
abbrev S128x64 : Shape := ⟨2, ![128, 64]⟩
abbrev S1x1x1x128x64 : Shape := ⟨5, ![1, 1, 1, 128, 64]⟩
abbrev S1024x64 : Shape := ⟨2, ![1024, 64]⟩
abbrev S128x1024 : Shape := ⟨2, ![128, 1024]⟩
abbrev S128 : Shape := ⟨1, ![128]⟩
abbrev S128x1 : Shape := ⟨2, ![128, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .f32⟩
  | .hbm, ⟨1, _⟩ => ⟨S768x512, .f32⟩
  | .hbm, ⟨2, _⟩ => ⟨S2x512x8x64, .f32⟩
  | .hbm, ⟨3, _⟩ => ⟨S2x512x8x64, .f32⟩
  | .hbm, ⟨4, _⟩ => ⟨S512x768, .f32⟩
  | .hbm, ⟨5, _⟩ => ⟨S2x512x768, .f32⟩
  | .local _ .vmem, ⟨0, _⟩ => ⟨S768x512, .f32⟩
  | .local _ .vmem, ⟨1, _⟩ => ⟨S512x768, .f32⟩
  | .local _ .vmem, ⟨2, _⟩ => ⟨S2x512x768, .f32⟩
  | .local _ .vmem, ⟨3, _⟩ => ⟨S8x2x8x1024x64, .bf16⟩
  | .local _ .vmem, ⟨4, _⟩ => ⟨S2x8x512x64, .bf16⟩
  | .local _ .vmem, ⟨5, _⟩ => ⟨S2x8x512x64, .bf16⟩
  | .local _ .vmem, ⟨6, _⟩ => ⟨S2x512x8x64, .f32⟩
  | .local _ .vmem, ⟨7, _⟩ => ⟨S512x768, .f32⟩
  | _, _ => ⟨S2x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v17 : Index := Scalar.indexCast v2
  let c0_13 : Index := 0#32
  let c0_14 : Index := 0#32
  let c0_15 : Index := 0#32
  let c0_16 : Index := 0#32
  ![v17.toNat, 0, 0, 0, 0]
def k0_off2 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v22 : Index := Scalar.indexCast v2
  let c0_17 : Index := 0#32
  let c0_18 : Index := 0#32
  let c64 : Index := 64#32
  let c0_19 : Index := 0#32
  ![v22.toNat, 0, 0, 64, 0]
def k0_off3 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v27 : Index := Scalar.indexCast v2
  let c0_20 : Index := 0#32
  let c0_21 : Index := 0#32
  let c128 : Index := 128#32
  let c0_22 : Index := 0#32
  ![v27.toNat, 0, 0, 128, 0]
def k0_off4 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v32 : Index := Scalar.indexCast v2
  let c0_23 : Index := 0#32
  let c0_24 : Index := 0#32
  let c192 : Index := 192#32
  let c0_25 : Index := 0#32
  ![v32.toNat, 0, 0, 192, 0]
def k0_off5 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v37 : Index := Scalar.indexCast v2
  let c0_26 : Index := 0#32
  let c0_27 : Index := 0#32
  let c256 : Index := 256#32
  let c0_28 : Index := 0#32
  ![v37.toNat, 0, 0, 256, 0]
def k0_off6 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : Index := Scalar.indexCast v2
  let c0_29 : Index := 0#32
  let c0_30 : Index := 0#32
  let c320 : Index := 320#32
  let c0_31 : Index := 0#32
  ![v42.toNat, 0, 0, 320, 0]
def k0_off7 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : Index := Scalar.indexCast v2
  let c0_32 : Index := 0#32
  let c0_33 : Index := 0#32
  let c384 : Index := 384#32
  let c0_34 : Index := 0#32
  ![v47.toNat, 0, 0, 384, 0]
def k0_off8 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v52 : Index := Scalar.indexCast v2
  let c0_35 : Index := 0#32
  let c0_36 : Index := 0#32
  let c448 : Index := 448#32
  let c0_37 : Index := 0#32
  ![v52.toNat, 0, 0, 448, 0]
def k0_off9 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v60 : Index := Scalar.indexCast v2
  let c0_42 : Index := 0#32
  let c0_43 : Index := 0#32
  let c512 : Index := 512#32
  let c0_44 : Index := 0#32
  ![v60.toNat, 0, 0, 512, 0]
def k0_off10 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v65 : Index := Scalar.indexCast v2
  let c0_45 : Index := 0#32
  let c0_46 : Index := 0#32
  let c576 : Index := 576#32
  let c0_47 : Index := 0#32
  ![v65.toNat, 0, 0, 576, 0]
def k0_off11 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v70 : Index := Scalar.indexCast v2
  let c0_48 : Index := 0#32
  let c0_49 : Index := 0#32
  let c640 : Index := 640#32
  let c0_50 : Index := 0#32
  ![v70.toNat, 0, 0, 640, 0]
def k0_off12 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v75 : Index := Scalar.indexCast v2
  let c0_51 : Index := 0#32
  let c0_52 : Index := 0#32
  let c704 : Index := 704#32
  let c0_53 : Index := 0#32
  ![v75.toNat, 0, 0, 704, 0]
def k0_off13 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v80 : Index := Scalar.indexCast v2
  let c0_54 : Index := 0#32
  let c0_55 : Index := 0#32
  let c768 : Index := 768#32
  let c0_56 : Index := 0#32
  ![v80.toNat, 0, 0, 768, 0]
def k0_off14 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v85 : Index := Scalar.indexCast v2
  let c0_57 : Index := 0#32
  let c0_58 : Index := 0#32
  let c832 : Index := 832#32
  let c0_59 : Index := 0#32
  ![v85.toNat, 0, 0, 832, 0]
def k0_off15 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v90 : Index := Scalar.indexCast v2
  let c0_60 : Index := 0#32
  let c0_61 : Index := 0#32
  let c896 : Index := 896#32
  let c0_62 : Index := 0#32
  ![v90.toNat, 0, 0, 896, 0]
def k0_off16 (d0 : Dev nD) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : Index := Scalar.indexCast v2
  let c0_63 : Index := 0#32
  let c0_64 : Index := 0#32
  let c960 : Index := 960#32
  let c0_65 : Index := 0#32
  ![v95.toNat, 0, 0, 960, 0]
def k0_off17 (d0 : Dev nD) (c0_i32_94 : BitVec 32) : Fin 5 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v132 : BitVec 32 := Scalar.subi v2 c0_i32_94
  let c8_i32_95 : BitVec 32 := 8#32
  let v133 : BitVec 32 := Scalar.addi v132 c8_i32_95
  let c8_i32_96 : BitVec 32 := 8#32
  let v134 : BitVec 32 := Scalar.remsi v133 c8_i32_96
  let c0_i32_101 : BitVec 32 := 0#32
  let c0_i32_102 : BitVec 32 := 0#32
  let c0_i32_103 : BitVec 32 := 0#32
  let c0_i32_104 : BitVec 32 := 0#32
  ![v134.toNat, 0, 0, 0, 0]
def k0_dev3 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_99 : BitVec 32 := 1#32
  let v135 : BitVec 32 := Scalar.muli v7 c1_i32_99
  let v136 : BitVec 32 := Scalar.addi c0_i32_100 v135
  v136.toNat
def k0_dev4 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_137 : BitVec 32 := 1#32
  let v162 : BitVec 32 := Scalar.muli v7 c1_i32_137
  let v163 : BitVec 32 := Scalar.addi c0_i32_138 v162
  v163.toNat
def k0_dev5 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_175 : BitVec 32 := 1#32
  let v189 : BitVec 32 := Scalar.muli v7 c1_i32_175
  let v190 : BitVec 32 := Scalar.addi c0_i32_176 v189
  v190.toNat
def k0_dev6 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_212 : BitVec 32 := 1#32
  let v216 : BitVec 32 := Scalar.muli v7 c1_i32_212
  let v217 : BitVec 32 := Scalar.addi c0_i32_213 v216
  v217.toNat
def k0_dev7 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_249 : BitVec 32 := 1#32
  let v243 : BitVec 32 := Scalar.muli v7 c1_i32_249
  let v244 : BitVec 32 := Scalar.addi c0_i32_250 v243
  v244.toNat
def k0_dev8 (d0 : Dev nD) : Nat :=
  let c0_i32_287 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_286 : BitVec 32 := 1#32
  let v270 : BitVec 32 := Scalar.muli v7 c1_i32_286
  let v271 : BitVec 32 := Scalar.addi c0_i32_287 v270
  v271.toNat
def k0_dev9 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_323 : BitVec 32 := 1#32
  let v297 : BitVec 32 := Scalar.muli v7 c1_i32_323
  let v298 : BitVec 32 := Scalar.addi c0_i32_324 v297
  v298.toNat
@[reducible] def k0_t1_loop : Scf.Loop 32 :=
  let c0_i32_356 : BitVec 32 := 0#32
  let c16_i32 : BitVec 32 := 16#32
  let v321 : BitVec 32 := Scalar.addi c0_i32_356 c16_i32
  let c1_i32_357 : BitVec 32 := 1#32
  ⟨c0_i32_356, v321, c1_i32_357⟩
def k0_off18 (k0_t1 : Fin k0_t1_loop.trips) : Fin 4 → Nat :=
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v359 : Index := Scalar.indexCast v357
  let c8_i32_384 : BitVec 32 := 8#32
  let v358 : BitVec 32 := Scalar.remsi arg15 c8_i32_384
  let v360 : Index := Scalar.indexCast v358
  let c0_385 : Index := 0#32
  let c0_386 : Index := 0#32
  ![v359.toNat, v360.toNat, 0, 0]
def k0_off19 (k0_t1 : Fin k0_t1_loop.trips) : Fin 4 → Nat :=
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v363 : Index := Scalar.indexCast v357
  let c8_i32_384 : BitVec 32 := 8#32
  let v358 : BitVec 32 := Scalar.remsi arg15 c8_i32_384
  let v364 : Index := Scalar.indexCast v358
  let c256_387 : Index := 256#32
  let c0_388 : Index := 0#32
  ![v363.toNat, v364.toNat, 256, 0]
def k0_off20 (k0_t1 : Fin k0_t1_loop.trips) : Fin 5 → Nat :=
  let c0_389 : Index := 0#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v368 : Index := Scalar.indexCast v357
  let c8_i32_384 : BitVec 32 := 8#32
  let v358 : BitVec 32 := Scalar.remsi arg15 c8_i32_384
  let v369 : Index := Scalar.indexCast v358
  let c0_390 : Index := 0#32
  let c0_391 : Index := 0#32
  ![0, v368.toNat, v369.toNat, 0, 0]
def k0_off21 (k0_t1 : Fin k0_t1_loop.trips) : Fin 5 → Nat :=
  let c1_392 : Index := 1#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v372 : Index := Scalar.indexCast v357
  let c8_i32_384 : BitVec 32 := 8#32
  let v358 : BitVec 32 := Scalar.remsi arg15 c8_i32_384
  let v373 : Index := Scalar.indexCast v358
  let c0_393 : Index := 0#32
  let c0_394 : Index := 0#32
  ![1, v372.toNat, v373.toNat, 0, 0]
def k0_off22 (k0_t1 : Fin k0_t1_loop.trips) : Fin 5 → Nat :=
  let c2 : Index := 2#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v376 : Index := Scalar.indexCast v357
  let c8_i32_384 : BitVec 32 := 8#32
  let v358 : BitVec 32 := Scalar.remsi arg15 c8_i32_384
  let v377 : Index := Scalar.indexCast v358
  let c0_395 : Index := 0#32
  let c0_396 : Index := 0#32
  ![2, v376.toNat, v377.toNat, 0, 0]
def k0_off23 (k0_t1 : Fin k0_t1_loop.trips) : Fin 5 → Nat :=
  let c3 : Index := 3#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v380 : Index := Scalar.indexCast v357
  let c8_i32_384 : BitVec 32 := 8#32
  let v358 : BitVec 32 := Scalar.remsi arg15 c8_i32_384
  let v381 : Index := Scalar.indexCast v358
  let c0_397 : Index := 0#32
  let c0_398 : Index := 0#32
  ![3, v380.toNat, v381.toNat, 0, 0]
def k0_off24 (k0_t1 : Fin k0_t1_loop.trips) : Fin 5 → Nat :=
  let c4 : Index := 4#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v384 : Index := Scalar.indexCast v357
  let c8_i32_384 : BitVec 32 := 8#32
  let v358 : BitVec 32 := Scalar.remsi arg15 c8_i32_384
  let v385 : Index := Scalar.indexCast v358
  let c0_399 : Index := 0#32
  let c0_400 : Index := 0#32
  ![4, v384.toNat, v385.toNat, 0, 0]
def k0_off25 (k0_t1 : Fin k0_t1_loop.trips) : Fin 5 → Nat :=
  let c5 : Index := 5#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v388 : Index := Scalar.indexCast v357
  let c8_i32_384 : BitVec 32 := 8#32
  let v358 : BitVec 32 := Scalar.remsi arg15 c8_i32_384
  let v389 : Index := Scalar.indexCast v358
  let c0_401 : Index := 0#32
  let c0_402 : Index := 0#32
  ![5, v388.toNat, v389.toNat, 0, 0]
def k0_off26 (k0_t1 : Fin k0_t1_loop.trips) : Fin 5 → Nat :=
  let c6 : Index := 6#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v392 : Index := Scalar.indexCast v357
  let c8_i32_384 : BitVec 32 := 8#32
  let v358 : BitVec 32 := Scalar.remsi arg15 c8_i32_384
  let v393 : Index := Scalar.indexCast v358
  let c0_403 : Index := 0#32
  let c0_404 : Index := 0#32
  ![6, v392.toNat, v393.toNat, 0, 0]
def k0_off27 (k0_t1 : Fin k0_t1_loop.trips) : Fin 5 → Nat :=
  let c7 : Index := 7#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v396 : Index := Scalar.indexCast v357
  let c8_i32_384 : BitVec 32 := 8#32
  let v358 : BitVec 32 := Scalar.remsi arg15 c8_i32_384
  let v397 : Index := Scalar.indexCast v358
  let c0_405 : Index := 0#32
  let c0_406 : Index := 0#32
  ![7, v396.toNat, v397.toNat, 0, 0]
def k0_off28 (k0_t1 : Fin k0_t1_loop.trips) : Fin 5 → Nat :=
  let c0_407 : Index := 0#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v401 : Index := Scalar.indexCast v357
  let c8_i32_384 : BitVec 32 := 8#32
  let v358 : BitVec 32 := Scalar.remsi arg15 c8_i32_384
  let v402 : Index := Scalar.indexCast v358
  let c512_408 : Index := 512#32
  let c0_409 : Index := 0#32
  ![0, v401.toNat, v402.toNat, 512, 0]
def k0_off29 (k0_t1 : Fin k0_t1_loop.trips) : Fin 5 → Nat :=
  let c1_410 : Index := 1#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v405 : Index := Scalar.indexCast v357
  let c8_i32_384 : BitVec 32 := 8#32
  let v358 : BitVec 32 := Scalar.remsi arg15 c8_i32_384
  let v406 : Index := Scalar.indexCast v358
  let c512_411 : Index := 512#32
  let c0_412 : Index := 0#32
  ![1, v405.toNat, v406.toNat, 512, 0]
def k0_off30 (k0_t1 : Fin k0_t1_loop.trips) : Fin 5 → Nat :=
  let c2_413 : Index := 2#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v409 : Index := Scalar.indexCast v357
  let c8_i32_384 : BitVec 32 := 8#32
  let v358 : BitVec 32 := Scalar.remsi arg15 c8_i32_384
  let v410 : Index := Scalar.indexCast v358
  let c512_414 : Index := 512#32
  let c0_415 : Index := 0#32
  ![2, v409.toNat, v410.toNat, 512, 0]
def k0_off31 (k0_t1 : Fin k0_t1_loop.trips) : Fin 5 → Nat :=
  let c3_416 : Index := 3#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v413 : Index := Scalar.indexCast v357
  let c8_i32_384 : BitVec 32 := 8#32
  let v358 : BitVec 32 := Scalar.remsi arg15 c8_i32_384
  let v414 : Index := Scalar.indexCast v358
  let c512_417 : Index := 512#32
  let c0_418 : Index := 0#32
  ![3, v413.toNat, v414.toNat, 512, 0]
def k0_off32 (k0_t1 : Fin k0_t1_loop.trips) : Fin 5 → Nat :=
  let c4_419 : Index := 4#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v417 : Index := Scalar.indexCast v357
  let c8_i32_384 : BitVec 32 := 8#32
  let v358 : BitVec 32 := Scalar.remsi arg15 c8_i32_384
  let v418 : Index := Scalar.indexCast v358
  let c512_420 : Index := 512#32
  let c0_421 : Index := 0#32
  ![4, v417.toNat, v418.toNat, 512, 0]
def k0_off33 (k0_t1 : Fin k0_t1_loop.trips) : Fin 5 → Nat :=
  let c5_422 : Index := 5#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v421 : Index := Scalar.indexCast v357
  let c8_i32_384 : BitVec 32 := 8#32
  let v358 : BitVec 32 := Scalar.remsi arg15 c8_i32_384
  let v422 : Index := Scalar.indexCast v358
  let c512_423 : Index := 512#32
  let c0_424 : Index := 0#32
  ![5, v421.toNat, v422.toNat, 512, 0]
def k0_off34 (k0_t1 : Fin k0_t1_loop.trips) : Fin 5 → Nat :=
  let c6_425 : Index := 6#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v425 : Index := Scalar.indexCast v357
  let c8_i32_384 : BitVec 32 := 8#32
  let v358 : BitVec 32 := Scalar.remsi arg15 c8_i32_384
  let v426 : Index := Scalar.indexCast v358
  let c512_426 : Index := 512#32
  let c0_427 : Index := 0#32
  ![6, v425.toNat, v426.toNat, 512, 0]
def k0_off35 (k0_t1 : Fin k0_t1_loop.trips) : Fin 5 → Nat :=
  let c7_428 : Index := 7#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v429 : Index := Scalar.indexCast v357
  let c8_i32_384 : BitVec 32 := 8#32
  let v358 : BitVec 32 := Scalar.remsi arg15 c8_i32_384
  let v430 : Index := Scalar.indexCast v358
  let c512_429 : Index := 512#32
  let c0_430 : Index := 0#32
  ![7, v429.toNat, v430.toNat, 512, 0]
def k0_off36 (k0_t1 : Fin k0_t1_loop.trips) : Fin 4 → Nat :=
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v459 : Index := Scalar.indexCast v357
  let c8_i32_384 : BitVec 32 := 8#32
  let v358 : BitVec 32 := Scalar.remsi arg15 c8_i32_384
  let v460 : Index := Scalar.indexCast v358
  let c64_439 : Index := 64#32
  let c0_440 : Index := 0#32
  ![v459.toNat, v460.toNat, 64, 0]
def k0_off37 (k0_t1 : Fin k0_t1_loop.trips) : Fin 4 → Nat :=
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v463 : Index := Scalar.indexCast v357
  let c8_i32_384 : BitVec 32 := 8#32
  let v358 : BitVec 32 := Scalar.remsi arg15 c8_i32_384
  let v464 : Index := Scalar.indexCast v358
  let c320_441 : Index := 320#32
  let c0_442 : Index := 0#32
  ![v463.toNat, v464.toNat, 320, 0]
def k0_off38 (k0_t1 : Fin k0_t1_loop.trips) : Fin 5 → Nat :=
  let c0_443 : Index := 0#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v468 : Index := Scalar.indexCast v357
  let c8_i32_384 : BitVec 32 := 8#32
  let v358 : BitVec 32 := Scalar.remsi arg15 c8_i32_384
  let v469 : Index := Scalar.indexCast v358
  let c128_444 : Index := 128#32
  let c0_445 : Index := 0#32
  ![0, v468.toNat, v469.toNat, 128, 0]
def k0_off39 (k0_t1 : Fin k0_t1_loop.trips) : Fin 5 → Nat :=
  let c1_446 : Index := 1#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v472 : Index := Scalar.indexCast v357
  let c8_i32_384 : BitVec 32 := 8#32
  let v358 : BitVec 32 := Scalar.remsi arg15 c8_i32_384
  let v473 : Index := Scalar.indexCast v358
  let c128_447 : Index := 128#32
  let c0_448 : Index := 0#32
  ![1, v472.toNat, v473.toNat, 128, 0]
def k0_off40 (k0_t1 : Fin k0_t1_loop.trips) : Fin 5 → Nat :=
  let c2_449 : Index := 2#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v476 : Index := Scalar.indexCast v357
  let c8_i32_384 : BitVec 32 := 8#32
  let v358 : BitVec 32 := Scalar.remsi arg15 c8_i32_384
  let v477 : Index := Scalar.indexCast v358
  let c128_450 : Index := 128#32
  let c0_451 : Index := 0#32
  ![2, v476.toNat, v477.toNat, 128, 0]
def k0_off41 (k0_t1 : Fin k0_t1_loop.trips) : Fin 5 → Nat :=
  let c3_452 : Index := 3#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v480 : Index := Scalar.indexCast v357
  let c8_i32_384 : BitVec 32 := 8#32
  let v358 : BitVec 32 := Scalar.remsi arg15 c8_i32_384
  let v481 : Index := Scalar.indexCast v358
  let c128_453 : Index := 128#32
  let c0_454 : Index := 0#32
  ![3, v480.toNat, v481.toNat, 128, 0]
def k0_off42 (k0_t1 : Fin k0_t1_loop.trips) : Fin 5 → Nat :=
  let c4_455 : Index := 4#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v484 : Index := Scalar.indexCast v357
  let c8_i32_384 : BitVec 32 := 8#32
  let v358 : BitVec 32 := Scalar.remsi arg15 c8_i32_384
  let v485 : Index := Scalar.indexCast v358
  let c128_456 : Index := 128#32
  let c0_457 : Index := 0#32
  ![4, v484.toNat, v485.toNat, 128, 0]
def k0_off43 (k0_t1 : Fin k0_t1_loop.trips) : Fin 5 → Nat :=
  let c5_458 : Index := 5#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v488 : Index := Scalar.indexCast v357
  let c8_i32_384 : BitVec 32 := 8#32
  let v358 : BitVec 32 := Scalar.remsi arg15 c8_i32_384
  let v489 : Index := Scalar.indexCast v358
  let c128_459 : Index := 128#32
  let c0_460 : Index := 0#32
  ![5, v488.toNat, v489.toNat, 128, 0]
def k0_off44 (k0_t1 : Fin k0_t1_loop.trips) : Fin 5 → Nat :=
  let c6_461 : Index := 6#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v492 : Index := Scalar.indexCast v357
  let c8_i32_384 : BitVec 32 := 8#32
  let v358 : BitVec 32 := Scalar.remsi arg15 c8_i32_384
  let v493 : Index := Scalar.indexCast v358
  let c128_462 : Index := 128#32
  let c0_463 : Index := 0#32
  ![6, v492.toNat, v493.toNat, 128, 0]
def k0_off45 (k0_t1 : Fin k0_t1_loop.trips) : Fin 5 → Nat :=
  let c7_464 : Index := 7#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v496 : Index := Scalar.indexCast v357
  let c8_i32_384 : BitVec 32 := 8#32
  let v358 : BitVec 32 := Scalar.remsi arg15 c8_i32_384
  let v497 : Index := Scalar.indexCast v358
  let c128_465 : Index := 128#32
  let c0_466 : Index := 0#32
  ![7, v496.toNat, v497.toNat, 128, 0]
def k0_off46 (k0_t1 : Fin k0_t1_loop.trips) : Fin 5 → Nat :=
  let c0_467 : Index := 0#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v501 : Index := Scalar.indexCast v357
  let c8_i32_384 : BitVec 32 := 8#32
  let v358 : BitVec 32 := Scalar.remsi arg15 c8_i32_384
  let v502 : Index := Scalar.indexCast v358
  let c640_468 : Index := 640#32
  let c0_469 : Index := 0#32
  ![0, v501.toNat, v502.toNat, 640, 0]
def k0_off47 (k0_t1 : Fin k0_t1_loop.trips) : Fin 5 → Nat :=
  let c1_470 : Index := 1#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v505 : Index := Scalar.indexCast v357
  let c8_i32_384 : BitVec 32 := 8#32
  let v358 : BitVec 32 := Scalar.remsi arg15 c8_i32_384
  let v506 : Index := Scalar.indexCast v358
  let c640_471 : Index := 640#32
  let c0_472 : Index := 0#32
  ![1, v505.toNat, v506.toNat, 640, 0]
def k0_off48 (k0_t1 : Fin k0_t1_loop.trips) : Fin 5 → Nat :=
  let c2_473 : Index := 2#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v509 : Index := Scalar.indexCast v357
  let c8_i32_384 : BitVec 32 := 8#32
  let v358 : BitVec 32 := Scalar.remsi arg15 c8_i32_384
  let v510 : Index := Scalar.indexCast v358
  let c640_474 : Index := 640#32
  let c0_475 : Index := 0#32
  ![2, v509.toNat, v510.toNat, 640, 0]
def k0_off49 (k0_t1 : Fin k0_t1_loop.trips) : Fin 5 → Nat :=
  let c3_476 : Index := 3#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v513 : Index := Scalar.indexCast v357
  let c8_i32_384 : BitVec 32 := 8#32
  let v358 : BitVec 32 := Scalar.remsi arg15 c8_i32_384
  let v514 : Index := Scalar.indexCast v358
  let c640_477 : Index := 640#32
  let c0_478 : Index := 0#32
  ![3, v513.toNat, v514.toNat, 640, 0]
def k0_off50 (k0_t1 : Fin k0_t1_loop.trips) : Fin 5 → Nat :=
  let c4_479 : Index := 4#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v517 : Index := Scalar.indexCast v357
  let c8_i32_384 : BitVec 32 := 8#32
  let v358 : BitVec 32 := Scalar.remsi arg15 c8_i32_384
  let v518 : Index := Scalar.indexCast v358
  let c640_480 : Index := 640#32
  let c0_481 : Index := 0#32
  ![4, v517.toNat, v518.toNat, 640, 0]
def k0_off51 (k0_t1 : Fin k0_t1_loop.trips) : Fin 5 → Nat :=
  let c5_482 : Index := 5#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v521 : Index := Scalar.indexCast v357
  let c8_i32_384 : BitVec 32 := 8#32
  let v358 : BitVec 32 := Scalar.remsi arg15 c8_i32_384
  let v522 : Index := Scalar.indexCast v358
  let c640_483 : Index := 640#32
  let c0_484 : Index := 0#32
  ![5, v521.toNat, v522.toNat, 640, 0]
def k0_off52 (k0_t1 : Fin k0_t1_loop.trips) : Fin 5 → Nat :=
  let c6_485 : Index := 6#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v525 : Index := Scalar.indexCast v357
  let c8_i32_384 : BitVec 32 := 8#32
  let v358 : BitVec 32 := Scalar.remsi arg15 c8_i32_384
  let v526 : Index := Scalar.indexCast v358
  let c640_486 : Index := 640#32
  let c0_487 : Index := 0#32
  ![6, v525.toNat, v526.toNat, 640, 0]
def k0_off53 (k0_t1 : Fin k0_t1_loop.trips) : Fin 5 → Nat :=
  let c7_488 : Index := 7#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v529 : Index := Scalar.indexCast v357
  let c8_i32_384 : BitVec 32 := 8#32
  let v358 : BitVec 32 := Scalar.remsi arg15 c8_i32_384
  let v530 : Index := Scalar.indexCast v358
  let c640_489 : Index := 640#32
  let c0_490 : Index := 0#32
  ![7, v529.toNat, v530.toNat, 640, 0]
def k0_off54 (k0_t1 : Fin k0_t1_loop.trips) : Fin 4 → Nat :=
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v559 : Index := Scalar.indexCast v357
  let c8_i32_384 : BitVec 32 := 8#32
  let v358 : BitVec 32 := Scalar.remsi arg15 c8_i32_384
  let v560 : Index := Scalar.indexCast v358
  let c128_499 : Index := 128#32
  let c0_500 : Index := 0#32
  ![v559.toNat, v560.toNat, 128, 0]
def k0_off55 (k0_t1 : Fin k0_t1_loop.trips) : Fin 4 → Nat :=
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v563 : Index := Scalar.indexCast v357
  let c8_i32_384 : BitVec 32 := 8#32
  let v358 : BitVec 32 := Scalar.remsi arg15 c8_i32_384
  let v564 : Index := Scalar.indexCast v358
  let c384_501 : Index := 384#32
  let c0_502 : Index := 0#32
  ![v563.toNat, v564.toNat, 384, 0]
def k0_off56 (k0_t1 : Fin k0_t1_loop.trips) : Fin 5 → Nat :=
  let c0_503 : Index := 0#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v568 : Index := Scalar.indexCast v357
  let c8_i32_384 : BitVec 32 := 8#32
  let v358 : BitVec 32 := Scalar.remsi arg15 c8_i32_384
  let v569 : Index := Scalar.indexCast v358
  let c256_504 : Index := 256#32
  let c0_505 : Index := 0#32
  ![0, v568.toNat, v569.toNat, 256, 0]
def k0_off57 (k0_t1 : Fin k0_t1_loop.trips) : Fin 5 → Nat :=
  let c1_506 : Index := 1#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v572 : Index := Scalar.indexCast v357
  let c8_i32_384 : BitVec 32 := 8#32
  let v358 : BitVec 32 := Scalar.remsi arg15 c8_i32_384
  let v573 : Index := Scalar.indexCast v358
  let c256_507 : Index := 256#32
  let c0_508 : Index := 0#32
  ![1, v572.toNat, v573.toNat, 256, 0]
def k0_off58 (k0_t1 : Fin k0_t1_loop.trips) : Fin 5 → Nat :=
  let c2_509 : Index := 2#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v576 : Index := Scalar.indexCast v357
  let c8_i32_384 : BitVec 32 := 8#32
  let v358 : BitVec 32 := Scalar.remsi arg15 c8_i32_384
  let v577 : Index := Scalar.indexCast v358
  let c256_510 : Index := 256#32
  let c0_511 : Index := 0#32
  ![2, v576.toNat, v577.toNat, 256, 0]
def k0_off59 (k0_t1 : Fin k0_t1_loop.trips) : Fin 5 → Nat :=
  let c3_512 : Index := 3#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v580 : Index := Scalar.indexCast v357
  let c8_i32_384 : BitVec 32 := 8#32
  let v358 : BitVec 32 := Scalar.remsi arg15 c8_i32_384
  let v581 : Index := Scalar.indexCast v358
  let c256_513 : Index := 256#32
  let c0_514 : Index := 0#32
  ![3, v580.toNat, v581.toNat, 256, 0]
def k0_off60 (k0_t1 : Fin k0_t1_loop.trips) : Fin 5 → Nat :=
  let c4_515 : Index := 4#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v584 : Index := Scalar.indexCast v357
  let c8_i32_384 : BitVec 32 := 8#32
  let v358 : BitVec 32 := Scalar.remsi arg15 c8_i32_384
  let v585 : Index := Scalar.indexCast v358
  let c256_516 : Index := 256#32
  let c0_517 : Index := 0#32
  ![4, v584.toNat, v585.toNat, 256, 0]
def k0_off61 (k0_t1 : Fin k0_t1_loop.trips) : Fin 5 → Nat :=
  let c5_518 : Index := 5#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v588 : Index := Scalar.indexCast v357
  let c8_i32_384 : BitVec 32 := 8#32
  let v358 : BitVec 32 := Scalar.remsi arg15 c8_i32_384
  let v589 : Index := Scalar.indexCast v358
  let c256_519 : Index := 256#32
  let c0_520 : Index := 0#32
  ![5, v588.toNat, v589.toNat, 256, 0]
def k0_off62 (k0_t1 : Fin k0_t1_loop.trips) : Fin 5 → Nat :=
  let c6_521 : Index := 6#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v592 : Index := Scalar.indexCast v357
  let c8_i32_384 : BitVec 32 := 8#32
  let v358 : BitVec 32 := Scalar.remsi arg15 c8_i32_384
  let v593 : Index := Scalar.indexCast v358
  let c256_522 : Index := 256#32
  let c0_523 : Index := 0#32
  ![6, v592.toNat, v593.toNat, 256, 0]
def k0_off63 (k0_t1 : Fin k0_t1_loop.trips) : Fin 5 → Nat :=
  let c7_524 : Index := 7#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v596 : Index := Scalar.indexCast v357
  let c8_i32_384 : BitVec 32 := 8#32
  let v358 : BitVec 32 := Scalar.remsi arg15 c8_i32_384
  let v597 : Index := Scalar.indexCast v358
  let c256_525 : Index := 256#32
  let c0_526 : Index := 0#32
  ![7, v596.toNat, v597.toNat, 256, 0]
def k0_off64 (k0_t1 : Fin k0_t1_loop.trips) : Fin 5 → Nat :=
  let c0_527 : Index := 0#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v601 : Index := Scalar.indexCast v357
  let c8_i32_384 : BitVec 32 := 8#32
  let v358 : BitVec 32 := Scalar.remsi arg15 c8_i32_384
  let v602 : Index := Scalar.indexCast v358
  let c768_528 : Index := 768#32
  let c0_529 : Index := 0#32
  ![0, v601.toNat, v602.toNat, 768, 0]
def k0_off65 (k0_t1 : Fin k0_t1_loop.trips) : Fin 5 → Nat :=
  let c1_530 : Index := 1#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v605 : Index := Scalar.indexCast v357
  let c8_i32_384 : BitVec 32 := 8#32
  let v358 : BitVec 32 := Scalar.remsi arg15 c8_i32_384
  let v606 : Index := Scalar.indexCast v358
  let c768_531 : Index := 768#32
  let c0_532 : Index := 0#32
  ![1, v605.toNat, v606.toNat, 768, 0]
def k0_off66 (k0_t1 : Fin k0_t1_loop.trips) : Fin 5 → Nat :=
  let c2_533 : Index := 2#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v609 : Index := Scalar.indexCast v357
  let c8_i32_384 : BitVec 32 := 8#32
  let v358 : BitVec 32 := Scalar.remsi arg15 c8_i32_384
  let v610 : Index := Scalar.indexCast v358
  let c768_534 : Index := 768#32
  let c0_535 : Index := 0#32
  ![2, v609.toNat, v610.toNat, 768, 0]
def k0_off67 (k0_t1 : Fin k0_t1_loop.trips) : Fin 5 → Nat :=
  let c3_536 : Index := 3#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v613 : Index := Scalar.indexCast v357
  let c8_i32_384 : BitVec 32 := 8#32
  let v358 : BitVec 32 := Scalar.remsi arg15 c8_i32_384
  let v614 : Index := Scalar.indexCast v358
  let c768_537 : Index := 768#32
  let c0_538 : Index := 0#32
  ![3, v613.toNat, v614.toNat, 768, 0]
def k0_off68 (k0_t1 : Fin k0_t1_loop.trips) : Fin 5 → Nat :=
  let c4_539 : Index := 4#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v617 : Index := Scalar.indexCast v357
  let c8_i32_384 : BitVec 32 := 8#32
  let v358 : BitVec 32 := Scalar.remsi arg15 c8_i32_384
  let v618 : Index := Scalar.indexCast v358
  let c768_540 : Index := 768#32
  let c0_541 : Index := 0#32
  ![4, v617.toNat, v618.toNat, 768, 0]
def k0_off69 (k0_t1 : Fin k0_t1_loop.trips) : Fin 5 → Nat :=
  let c5_542 : Index := 5#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v621 : Index := Scalar.indexCast v357
  let c8_i32_384 : BitVec 32 := 8#32
  let v358 : BitVec 32 := Scalar.remsi arg15 c8_i32_384
  let v622 : Index := Scalar.indexCast v358
  let c768_543 : Index := 768#32
  let c0_544 : Index := 0#32
  ![5, v621.toNat, v622.toNat, 768, 0]
def k0_off70 (k0_t1 : Fin k0_t1_loop.trips) : Fin 5 → Nat :=
  let c6_545 : Index := 6#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v625 : Index := Scalar.indexCast v357
  let c8_i32_384 : BitVec 32 := 8#32
  let v358 : BitVec 32 := Scalar.remsi arg15 c8_i32_384
  let v626 : Index := Scalar.indexCast v358
  let c768_546 : Index := 768#32
  let c0_547 : Index := 0#32
  ![6, v625.toNat, v626.toNat, 768, 0]
def k0_off71 (k0_t1 : Fin k0_t1_loop.trips) : Fin 5 → Nat :=
  let c7_548 : Index := 7#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v629 : Index := Scalar.indexCast v357
  let c8_i32_384 : BitVec 32 := 8#32
  let v358 : BitVec 32 := Scalar.remsi arg15 c8_i32_384
  let v630 : Index := Scalar.indexCast v358
  let c768_549 : Index := 768#32
  let c0_550 : Index := 0#32
  ![7, v629.toNat, v630.toNat, 768, 0]
def k0_off72 (k0_t1 : Fin k0_t1_loop.trips) : Fin 4 → Nat :=
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v659 : Index := Scalar.indexCast v357
  let c8_i32_384 : BitVec 32 := 8#32
  let v358 : BitVec 32 := Scalar.remsi arg15 c8_i32_384
  let v660 : Index := Scalar.indexCast v358
  let c192_559 : Index := 192#32
  let c0_560 : Index := 0#32
  ![v659.toNat, v660.toNat, 192, 0]
def k0_off73 (k0_t1 : Fin k0_t1_loop.trips) : Fin 4 → Nat :=
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v663 : Index := Scalar.indexCast v357
  let c8_i32_384 : BitVec 32 := 8#32
  let v358 : BitVec 32 := Scalar.remsi arg15 c8_i32_384
  let v664 : Index := Scalar.indexCast v358
  let c448_561 : Index := 448#32
  let c0_562 : Index := 0#32
  ![v663.toNat, v664.toNat, 448, 0]
def k0_off74 (k0_t1 : Fin k0_t1_loop.trips) : Fin 5 → Nat :=
  let c0_563 : Index := 0#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v668 : Index := Scalar.indexCast v357
  let c8_i32_384 : BitVec 32 := 8#32
  let v358 : BitVec 32 := Scalar.remsi arg15 c8_i32_384
  let v669 : Index := Scalar.indexCast v358
  let c384_564 : Index := 384#32
  let c0_565 : Index := 0#32
  ![0, v668.toNat, v669.toNat, 384, 0]
def k0_off75 (k0_t1 : Fin k0_t1_loop.trips) : Fin 5 → Nat :=
  let c1_566 : Index := 1#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v672 : Index := Scalar.indexCast v357
  let c8_i32_384 : BitVec 32 := 8#32
  let v358 : BitVec 32 := Scalar.remsi arg15 c8_i32_384
  let v673 : Index := Scalar.indexCast v358
  let c384_567 : Index := 384#32
  let c0_568 : Index := 0#32
  ![1, v672.toNat, v673.toNat, 384, 0]
def k0_off76 (k0_t1 : Fin k0_t1_loop.trips) : Fin 5 → Nat :=
  let c2_569 : Index := 2#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v676 : Index := Scalar.indexCast v357
  let c8_i32_384 : BitVec 32 := 8#32
  let v358 : BitVec 32 := Scalar.remsi arg15 c8_i32_384
  let v677 : Index := Scalar.indexCast v358
  let c384_570 : Index := 384#32
  let c0_571 : Index := 0#32
  ![2, v676.toNat, v677.toNat, 384, 0]
def k0_off77 (k0_t1 : Fin k0_t1_loop.trips) : Fin 5 → Nat :=
  let c3_572 : Index := 3#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v680 : Index := Scalar.indexCast v357
  let c8_i32_384 : BitVec 32 := 8#32
  let v358 : BitVec 32 := Scalar.remsi arg15 c8_i32_384
  let v681 : Index := Scalar.indexCast v358
  let c384_573 : Index := 384#32
  let c0_574 : Index := 0#32
  ![3, v680.toNat, v681.toNat, 384, 0]
def k0_off78 (k0_t1 : Fin k0_t1_loop.trips) : Fin 5 → Nat :=
  let c4_575 : Index := 4#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v684 : Index := Scalar.indexCast v357
  let c8_i32_384 : BitVec 32 := 8#32
  let v358 : BitVec 32 := Scalar.remsi arg15 c8_i32_384
  let v685 : Index := Scalar.indexCast v358
  let c384_576 : Index := 384#32
  let c0_577 : Index := 0#32
  ![4, v684.toNat, v685.toNat, 384, 0]
def k0_off79 (k0_t1 : Fin k0_t1_loop.trips) : Fin 5 → Nat :=
  let c5_578 : Index := 5#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v688 : Index := Scalar.indexCast v357
  let c8_i32_384 : BitVec 32 := 8#32
  let v358 : BitVec 32 := Scalar.remsi arg15 c8_i32_384
  let v689 : Index := Scalar.indexCast v358
  let c384_579 : Index := 384#32
  let c0_580 : Index := 0#32
  ![5, v688.toNat, v689.toNat, 384, 0]
def k0_off80 (k0_t1 : Fin k0_t1_loop.trips) : Fin 5 → Nat :=
  let c6_581 : Index := 6#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v692 : Index := Scalar.indexCast v357
  let c8_i32_384 : BitVec 32 := 8#32
  let v358 : BitVec 32 := Scalar.remsi arg15 c8_i32_384
  let v693 : Index := Scalar.indexCast v358
  let c384_582 : Index := 384#32
  let c0_583 : Index := 0#32
  ![6, v692.toNat, v693.toNat, 384, 0]
def k0_off81 (k0_t1 : Fin k0_t1_loop.trips) : Fin 5 → Nat :=
  let c7_584 : Index := 7#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v696 : Index := Scalar.indexCast v357
  let c8_i32_384 : BitVec 32 := 8#32
  let v358 : BitVec 32 := Scalar.remsi arg15 c8_i32_384
  let v697 : Index := Scalar.indexCast v358
  let c384_585 : Index := 384#32
  let c0_586 : Index := 0#32
  ![7, v696.toNat, v697.toNat, 384, 0]
def k0_off82 (k0_t1 : Fin k0_t1_loop.trips) : Fin 5 → Nat :=
  let c0_587 : Index := 0#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v701 : Index := Scalar.indexCast v357
  let c8_i32_384 : BitVec 32 := 8#32
  let v358 : BitVec 32 := Scalar.remsi arg15 c8_i32_384
  let v702 : Index := Scalar.indexCast v358
  let c896_588 : Index := 896#32
  let c0_589 : Index := 0#32
  ![0, v701.toNat, v702.toNat, 896, 0]
def k0_off83 (k0_t1 : Fin k0_t1_loop.trips) : Fin 5 → Nat :=
  let c1_590 : Index := 1#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v705 : Index := Scalar.indexCast v357
  let c8_i32_384 : BitVec 32 := 8#32
  let v358 : BitVec 32 := Scalar.remsi arg15 c8_i32_384
  let v706 : Index := Scalar.indexCast v358
  let c896_591 : Index := 896#32
  let c0_592 : Index := 0#32
  ![1, v705.toNat, v706.toNat, 896, 0]
def k0_off84 (k0_t1 : Fin k0_t1_loop.trips) : Fin 5 → Nat :=
  let c2_593 : Index := 2#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v709 : Index := Scalar.indexCast v357
  let c8_i32_384 : BitVec 32 := 8#32
  let v358 : BitVec 32 := Scalar.remsi arg15 c8_i32_384
  let v710 : Index := Scalar.indexCast v358
  let c896_594 : Index := 896#32
  let c0_595 : Index := 0#32
  ![2, v709.toNat, v710.toNat, 896, 0]
def k0_off85 (k0_t1 : Fin k0_t1_loop.trips) : Fin 5 → Nat :=
  let c3_596 : Index := 3#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v713 : Index := Scalar.indexCast v357
  let c8_i32_384 : BitVec 32 := 8#32
  let v358 : BitVec 32 := Scalar.remsi arg15 c8_i32_384
  let v714 : Index := Scalar.indexCast v358
  let c896_597 : Index := 896#32
  let c0_598 : Index := 0#32
  ![3, v713.toNat, v714.toNat, 896, 0]
def k0_off86 (k0_t1 : Fin k0_t1_loop.trips) : Fin 5 → Nat :=
  let c4_599 : Index := 4#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v717 : Index := Scalar.indexCast v357
  let c8_i32_384 : BitVec 32 := 8#32
  let v358 : BitVec 32 := Scalar.remsi arg15 c8_i32_384
  let v718 : Index := Scalar.indexCast v358
  let c896_600 : Index := 896#32
  let c0_601 : Index := 0#32
  ![4, v717.toNat, v718.toNat, 896, 0]
def k0_off87 (k0_t1 : Fin k0_t1_loop.trips) : Fin 5 → Nat :=
  let c5_602 : Index := 5#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v721 : Index := Scalar.indexCast v357
  let c8_i32_384 : BitVec 32 := 8#32
  let v358 : BitVec 32 := Scalar.remsi arg15 c8_i32_384
  let v722 : Index := Scalar.indexCast v358
  let c896_603 : Index := 896#32
  let c0_604 : Index := 0#32
  ![5, v721.toNat, v722.toNat, 896, 0]
def k0_off88 (k0_t1 : Fin k0_t1_loop.trips) : Fin 5 → Nat :=
  let c6_605 : Index := 6#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v725 : Index := Scalar.indexCast v357
  let c8_i32_384 : BitVec 32 := 8#32
  let v358 : BitVec 32 := Scalar.remsi arg15 c8_i32_384
  let v726 : Index := Scalar.indexCast v358
  let c896_606 : Index := 896#32
  let c0_607 : Index := 0#32
  ![6, v725.toNat, v726.toNat, 896, 0]
def k0_off89 (k0_t1 : Fin k0_t1_loop.trips) : Fin 5 → Nat :=
  let c7_608 : Index := 7#32
  let c0_i32_356 : BitVec 32 := 0#32
  let c1_i32_357 : BitVec 32 := 1#32
  let arg15 : BitVec 32 := Scf.iv c0_i32_356 c1_i32_357 k0_t1
  let c0_i32_378 : BitVec 32 := 0#32
  let v342 : BitVec 1 := Scalar.cmpi .sgt arg15 c0_i32_378
  let v343 : BitVec 32 := Scalar.extui v342
  let c0_i32_379 : BitVec 32 := 0#32
  let v344 : BitVec 1 := Scalar.cmpi .slt arg15 c0_i32_379
  let v345 : BitVec 32 := Scalar.extui v344
  let v346 : BitVec 32 := Scalar.subi v343 v345
  let c8_i32_377 : BitVec 32 := 8#32
  let c0_i32_380 : BitVec 32 := 0#32
  let v347 : BitVec 1 := Scalar.cmpi .sgt c8_i32_377 c0_i32_380
  let v348 : BitVec 32 := Scalar.extui v347
  let c0_i32_381 : BitVec 32 := 0#32
  let v349 : BitVec 1 := Scalar.cmpi .slt c8_i32_377 c0_i32_381
  let v350 : BitVec 32 := Scalar.extui v349
  let v351 : BitVec 32 := Scalar.subi v348 v350
  let v352 : BitVec 1 := Scalar.cmpi .ne v346 v351
  let v353 : BitVec 32 := Scalar.remsi arg15 c8_i32_377
  let c0_i32_382 : BitVec 32 := 0#32
  let v354 : BitVec 1 := Scalar.cmpi .ne v353 c0_i32_382
  let v355 : BitVec 1 := Scalar.andi v352 v354
  let v341 : BitVec 32 := Scalar.divsi arg15 c8_i32_377
  let c1_i32_383 : BitVec 32 := 1#32
  let v356 : BitVec 32 := Scalar.subi v341 c1_i32_383
  let v357 : BitVec 32 := Scalar.select v355 v356 v341
  let v729 : Index := Scalar.indexCast v357
  let c8_i32_384 : BitVec 32 := 8#32
  let v358 : BitVec 32 := Scalar.remsi arg15 c8_i32_384
  let v730 : Index := Scalar.indexCast v358
  let c896_609 : Index := 896#32
  let c0_610 : Index := 0#32
  ![7, v729.toNat, v730.toNat, 896, 0]
abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x4096x768 : Shape := ⟨3, ![2, 4096, 768]⟩
abbrev S768x512 : Shape := ⟨2, ![768, 512]⟩
abbrev S2x4096x8x64 : Shape := ⟨4, ![2, 4096, 8, 64]⟩
abbrev S512x768 : Shape := ⟨2, ![512, 768]⟩
abbrev S2x4096x512 : Shape := ⟨3, ![2, 4096, 512]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x8x4096x4096 : Shape := ⟨4, ![2, 8, 4096, 4096]⟩
abbrev S1x1x4096x4096 : Shape := ⟨4, ![1, 1, 4096, 4096]⟩
abbrev S2x8x4096 : Shape := ⟨3, ![2, 8, 4096]⟩
abbrev S2x8x4096x1 : Shape := ⟨4, ![2, 8, 4096, 1]⟩
abbrev S1x1x4096x1 : Shape := ⟨4, ![1, 1, 4096, 1]⟩
abbrev S2x8x64x4096 : Shape := ⟨4, ![2, 8, 64, 4096]⟩

abbrev nBuf : Space → Nat
  | .hbm => 137
  | .vmem => 0
  | .smem => 0
  | _ => 0

abbrev hbmTy0_0 (i : Nat) : BufTy := match i % 128 with
  | 0 => ⟨S2x4096x768, .f32⟩
  | 1 => ⟨S768x512, .f32⟩
  | 2 => ⟨S2x4096x8x64, .f32⟩
  | 3 => ⟨S2x4096x8x64, .f32⟩
  | 4 => ⟨S512x768, .f32⟩
  | 5 => ⟨S2x4096x512, .f32⟩
  | 6 => ⟨S2x4096x8x64, .f32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S4096x4096, .i32⟩
  | 48 => ⟨S4096x4096, .i32⟩
  | 49 => ⟨S4096x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S4096x1, .i32⟩
  | 79 => ⟨S4096x1, .i32⟩
  | 80 => ⟨S_, .i32⟩
  | 81 => ⟨S4096x1, .i32⟩
  | 82 => ⟨S4096x1, .i1⟩
  | 83 => ⟨S_, .i32⟩
  | 84 => ⟨S4096x1, .i32⟩
  | 85 => ⟨S4096x1, .i1⟩
  | 86 => ⟨S_, .i32⟩
  | 87 => ⟨S_, .i1⟩
  | 88 => ⟨S4096x1, .i1⟩
  | 89 => ⟨S4096x1, .i1⟩
  | 90 => ⟨S4096x1, .i1⟩
  | 91 => ⟨S4096x1, .i32⟩
  | 92 => ⟨S4096x1, .i32⟩
  | 93 => ⟨S4096x1, .i32⟩
  | 94 => ⟨S4096x4096, .i32⟩
  | 95 => ⟨S4096x4096, .i32⟩
  | 96 => ⟨S4096x4096, .i1⟩
  | 97 => ⟨S4096x4096, .i1⟩
  | 98 => ⟨S2x8x4096x4096, .f32⟩
  | 99 => ⟨S_, .f32⟩
  | 100 => ⟨S2x8x4096x4096, .f32⟩
  | 101 => ⟨S2x8x4096x4096, .f32⟩
  | 102 => ⟨S1x1x4096x4096, .i1⟩
  | 103 => ⟨S_, .f32⟩
  | 104 => ⟨S_, .f32⟩
  | 105 => ⟨S2x8x4096x4096, .i1⟩
  | 106 => ⟨S2x8x4096x4096, .f32⟩
  | 107 => ⟨S2x8x4096x4096, .f32⟩
  | 108 => ⟨S_, .f32⟩
  | 109 => ⟨S2x8x4096, .f32⟩
  | 110 => ⟨S2x8x4096x1, .f32⟩
  | 111 => ⟨S2x8x4096x4096, .f32⟩
  | 112 => ⟨S2x8x4096x4096, .f32⟩
  | 113 => ⟨S2x8x4096x4096, .f32⟩
  | 114 => ⟨S_, .i1⟩
  | 115 => ⟨S4096, .i1⟩
  | 116 => ⟨S1x1x4096x1, .i1⟩
  | 117 => ⟨S_, .f32⟩
  | 118 => ⟨S2x8x4096, .f32⟩
  | 119 => ⟨S2x8x4096x1, .f32⟩
  | 120 => ⟨S_, .f32⟩
  | 121 => ⟨S_, .f32⟩
  | 122 => ⟨S2x8x4096x1, .i1⟩
  | 123 => ⟨S2x8x4096x1, .f32⟩
  | 124 => ⟨S2x8x4096x1, .f32⟩
  | 125 => ⟨S2x8x4096x4096, .f32⟩
  | 126 => ⟨S2x8x4096x4096, .f32⟩
  | 127 => ⟨S1x1x4096x1, .i1⟩
  | _ => ⟨S2x4096x768, .f32⟩

abbrev hbmTy0_1 (i : Nat) : BufTy := match i % 128 with
  | 0 => ⟨S_, .f32⟩
  | 1 => ⟨S_, .f32⟩
  | 2 => ⟨S2x8x4096x4096, .i1⟩
  | 3 => ⟨S2x8x4096x4096, .f32⟩
  | 4 => ⟨S2x8x4096x4096, .f32⟩
  | 5 => ⟨S2x8x64x4096, .f32⟩
  | 6 => ⟨S2x4096x8x64, .f32⟩
  | 7 => ⟨S2x4096x512, .f32⟩
  | 8 => ⟨S2x4096x768, .f32⟩
  | _ => ⟨S2x4096x768, .f32⟩

abbrev hbmTy (i : Nat) : BufTy := match i / 128 with
  | 0 => hbmTy0_0 i
  | 1 => hbmTy0_1 i
  | _ => ⟨S2x4096x768, .f32⟩

abbrev bufTy : (tb : Table) → Fin (tcTables nBuf tb) → BufTy
  | .hbm, ⟨i, _⟩ => hbmTy i
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Comm.lean ====
/- The ring's buffer: which elements make a slot, what every slot holds once its packed keys and values are there,
   and what a copy of a slot leaves. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise
public import Idealize.ShloMosaic.Lib.Tactic

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ)

/-! ## Neighbours -/

set_option backward.proofsInPublic true in
/-- The device after `c` on the ring. -/
def rgt (c : Dev nD) : Dev nD := ⟨(c.val + 1) % 8, Nat.mod_lt _ (by decide)⟩
set_option backward.proofsInPublic true in
/-- The device before `c`. -/
def lft (c : Dev nD) : Dev nD := ⟨(c.val + 7) % 8, Nat.mod_lt _ (by decide)⟩

theorem lft_rgt (c : Dev nD) : lft (rgt c) = c := by revert c; decide
theorem rgt_lft (c : Dev nD) : rgt (lft c) = c := by revert c; decide
theorem rgt_val (c : Dev nD) : (rgt c).val = (c.val + 1) % 8 := rfl
theorem lft_val (c : Dev nD) : (lft c).val = (c.val + 7) % 8 := rfl
def turn : Dev nD ≃ Dev nD := ⟨rgt, lft, lft_rgt, rgt_lft⟩

/-! ## The buffers -/

abbrev commM : Memref sig .tc .vmem S8x2x8x1024x64 .bf16 := Memref.whole cc0_scratch0
abbrev qM : Memref sig .tc .vmem S2x8x512x64 .bf16 := Memref.whole cc0_scratch1
abbrev ctxM : Memref sig .tc .vmem S2x8x512x64 .bf16 := Memref.whole cc0_scratch2
abbrev kvM : Memref sig .tc .vmem S2x512x8x64 .f32 := Memref.whole cc0_scratch3
abbrev xM : Memref sig .tc .vmem S512x768 .f32 := Memref.whole cc0_scratch4
abbrev xH : Memref sig .tc .hbm S2x512x768 .f32 := Memref.whole main_arg0
abbrev kH : Memref sig .tc .hbm S2x512x8x64 .f32 := Memref.whole main_arg2
abbrev vH : Memref sig .tc .hbm S2x512x8x64 .f32 := Memref.whole main_arg3

abbrev CI : Type := (cc0_scratch0 : Ref sig .tc).ty.Idx
abbrev at0 (i : CI) : ℕ := ((i : S8x2x8x1024x64.Idx) 0).val

theorem at0_lt (i : CI) : at0 i < 8 := ((i : S8x2x8x1024x64.Idx) 0).isLt

/-- The elements of slot `s`. -/
def slot (s : ℕ) : Finset CI := Finset.univ.filter fun i => at0 i = s
/-- What device `c` holds of its buffer after `r` hops: slots `c, c-1, …, c-r`. -/
def held (c : Dev nD) (r : ℕ) : Finset CI := Finset.univ.filter fun i => (c.val + 8 - at0 i) % 8 ≤ r
/-- What device `c` still has to fill of its right neighbour's buffer before hop `r`: slots `c-r, …, c-6`. -/
def togo (c : Dev nD) (r : ℕ) : Finset CI := Finset.univ.filter fun i => r ≤ (c.val + 8 - at0 i) % 8 ∧ (c.val + 8 - at0 i) % 8 ≤ 6

theorem mem_slot {s : ℕ} {i : CI} : i ∈ slot s ↔ at0 i = s := by unfold slot; rw [Finset.mem_filter]; exact ⟨fun h => h.2, fun h => ⟨Finset.mem_univ _, h⟩⟩
theorem mem_held {c : Dev nD} {r : ℕ} {i : CI} : i ∈ held c r ↔ (c.val + 8 - at0 i) % 8 ≤ r := by
  unfold held; rw [Finset.mem_filter]; exact ⟨fun h => h.2, fun h => ⟨Finset.mem_univ _, h⟩⟩
theorem mem_togo {c : Dev nD} {r : ℕ} {i : CI} : i ∈ togo c r ↔ (r ≤ (c.val + 8 - at0 i) % 8 ∧ (c.val + 8 - at0 i) % 8 ≤ 6) := by
  unfold togo; rw [Finset.mem_filter]; exact ⟨fun h => h.2, fun h => ⟨Finset.mem_univ _, h⟩⟩

/-- The slot device `c` sends at hop `r`. -/
abbrev sends (c : Dev nD) (r : ℕ) : ℕ := (c.val + 8 - r) % 8

theorem slot_eq_held (c : Dev nD) : slot c.val = held c 0 := by
  ext i; rw [mem_slot, mem_held]; have := at0_lt i; have := c.isLt; change c.val < 8 at this; omega
theorem held_seven (c : Dev nD) : held c 7 = Finset.univ := by
  ext i; rw [mem_held]; exact ⟨fun _ => Finset.mem_univ _, fun _ => by omega⟩
theorem sends_sub_held (c : Dev nD) (r : ℕ) (hr : r < 7) : slot (sends c r) ⊆ held c r := by
  intro i hi; rw [mem_slot] at hi; rw [mem_held]; have := at0_lt i; have := c.isLt; change c.val < 8 at this; unfold sends at hi; omega
theorem sends_sub_togo (c : Dev nD) (r : ℕ) (hr : r < 7) : slot (sends c r) ⊆ togo c r := by
  intro i hi; rw [mem_slot] at hi; rw [mem_togo]; have := at0_lt i; have := c.isLt; change c.val < 8 at this; unfold sends at hi; omega
theorem togo_step (c : Dev nD) (r : ℕ) (hr : r < 7) : togo c r \ slot (sends c r) = togo c (r + 1) := by
  ext i; rw [Finset.mem_sdiff, mem_slot, mem_togo, mem_togo]; have := at0_lt i; have := c.isLt; change c.val < 8 at this; unfold sends; omega
theorem togo_seven (c : Dev nD) : togo c 7 = ∅ := by
  ext i; rw [mem_togo]; exact ⟨fun h => by omega, fun h => absurd h (Finset.notMem_empty _)⟩
theorem held_step (c : Dev nD) (r : ℕ) (hr : r < 7) : held c r ∪ slot (sends (lft c) r) = held c (r + 1) := by
  ext i; rw [Finset.mem_union, mem_slot, mem_held, mem_held]; have := at0_lt i; have := c.isLt; change c.val < 8 at this; unfold sends; rw [lft_val]; omega
theorem held_disj (c : Dev nD) (r : ℕ) (hr : r < 7) : Disjoint (held c r) (slot (sends (lft c) r)) := by
  rw [Finset.disjoint_left]; intro i hi hi'; rw [mem_held] at hi; rw [mem_slot] at hi'; have := at0_lt i; have := c.isLt; change c.val < 8 at this
  unfold sends at hi'; rw [lft_val] at hi'; omega
theorem others_eq (c : Dev nD) : Finset.univ \ slot (rgt c).val = togo c 0 := by
  ext i; rw [Finset.mem_sdiff, mem_slot, mem_togo]; have := at0_lt i; have := c.isLt; change c.val < 8 at this; rw [rgt_val]
  exact ⟨fun h => by omega, fun h => ⟨Finset.mem_univ _, by omega⟩⟩

/-! ## The slot as the copies address it -/

/-- The view of a slot that a hop's copy and its two waits name. -/
abbrev slotM (off : Fin 5 → ℕ) (inb : ∀ a, off a + S1x2x8x1024x64.size a ≤ S8x2x8x1024x64.size a) : Memref sig .tc .vmem S2x8x1024x64 .bf16 :=
  (commM.slice (Rect.unit (s := S8x2x8x1024x64) off S1x2x8x1024x64.size inb) (fun _ => rfl)).squeeze S2x8x1024x64 squeezes_S1x2x8x1024x64_S2x8x1024x64

theorem slotM_set {off : Fin 5 → ℕ} {inb} {s : ℕ} (h : off = ![s, 0, 0, 0, 0]) : (slotM off inb).view.set = slot s := by
  subst h
  unfold slotM
  show ((commM.view.slice _).reshape _ _).set = _
  rw [View.set_reshape]
  show ((View.whole cc0_scratch0).slice _).set = _
  rw [View.set_slice_whole]
  ext i
  rw [mem_slot, Rect.mem_set_unit]
  constructor
  · intro hh; have := hh 0; change s ≤ at0 i ∧ at0 i < s + 1 at this; omega
  · intro hh a
    fin_cases a
    · change s ≤ at0 i ∧ at0 i < s + 1; omega
    · exact ⟨Nat.zero_le _, ((i : S8x2x8x1024x64.Idx) 1).isLt.trans_eq (Nat.zero_add _).symm⟩
    · exact ⟨Nat.zero_le _, ((i : S8x2x8x1024x64.Idx) 2).isLt.trans_eq (Nat.zero_add _).symm⟩
    · exact ⟨Nat.zero_le _, ((i : S8x2x8x1024x64.Idx) 3).isLt.trans_eq (Nat.zero_add _).symm⟩
    · exact ⟨Nat.zero_le _, ((i : S8x2x8x1024x64.Idx) 4).isLt.trans_eq (Nat.zero_add _).symm⟩

/-- Copying a view's elements onto the same elements of another copy of the buffer leaves there what was read. -/
theorem write_read_on {κ : Kind} {sp : Space} {s : Shape} {e : EltTy} (v : View sig κ sp s e) {f g : v.ty.Contents (Elt F)} (i : v.ty.Idx) (hi : i ∈ v.set) :
    v.write (Elt F) g (v.read (Elt F) f) Finset.univ i = f i := by
  obtain ⟨x, -, rfl⟩ := Finset.mem_map.mp hi
  rw [View.write_emb_of_mem _ _ (Finset.mem_univ _), View.read_apply, cast_cast, cast_eq]

/-! ## What a slot holds -/

/-- Row `r` of a slot's half holds row `srcRow r` of the device's own shard: classes in order, a class's two blocks together. -/
def srcRow (r : ℕ) : ℕ := 64 * ((r / 64) / 2 + 4 * ((r / 64) % 2)) + r % 64

theorem srcRow_lt {r : ℕ} (h : r < 512) : srcRow r < 512 := by unfold srcRow; omega

set_option backward.proofsInPublic true in
/-- Device `s`'s keys, packed. -/
def keyAt (s : Dev nD) (b : Fin 2) (h : Fin 8) (r : ℕ) (hr : r < 512) (d : Fin 64) : Elt F (.bf16) :=
  k0_pay51 (F := F) (m ((s : Thread nD τ).loc main_arg2)) (ix4 b h ⟨srcRow r, srcRow_lt hr⟩ d)
set_option backward.proofsInPublic true in
/-- Device `s`'s values, packed. -/
def valAt (s : Dev nD) (b : Fin 2) (h : Fin 8) (r : ℕ) (hr : r < 512) (d : Fin 64) : Elt F (.bf16) :=
  k0_pay60 (F := F) (m ((s : Thread nD τ).loc main_arg3)) (ix4 b h ⟨srcRow r, srcRow_lt hr⟩ d)

set_option backward.proofsInPublic true in
/-- The filled buffer, the same on every device: slot `s` is device `s`'s keys, then its values. -/
def allC : (cc0_scratch0 : Ref sig .tc).ty.Contents (Elt F) := fun i =>
  have j : S8x2x8x1024x64.Idx := i
  if h : (j 3).val < 512 then keyAt m (j 0) (j 1) (j 2) (j 3).val h (j 4)
  else valAt m (j 0) (j 1) (j 2) ((j 3).val - 512) (by have := (j 3).isLt; change (j 3).val < 1024 at this; omega) (j 4)

end Cert.Ring

end
-- ==== Proof.Proto.lean ====
/- The ring's protocol, written down: which semaphore is paid by whom, how often, for how much, and what each payment
   hands over.

   * barrier (one per device, the runtime's): the neighbours pay one unit each. The left one hands over nothing; the right
     one hands over its own ring buffer but for its own slot, which the waiter alone will fill.
   * send `h`, receive `h` (`h < 7`): one payment each, a slot's bytes, at hop `h`. The first gives the sender its slot
     back, the second gives the receiver the slot filled.
   * the key/value copy's semaphore: two payments, the keys' landing and then the values'.
   * the activations' semaphore: two payments, batch 0's landing and then batch 1's. -/
module

public import proofs.«01_k».proof.Proof.Comm

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Semaphores and cells -/

abbrev barS : Sem sig := (SemArray.scalar (sig.barrier 0 rfl) : Sems sig S_).sem
set_option backward.proofsInPublic true in
/-- The kernel's own DMA semaphores: send `0..6`, receive `0..6`, the copy's, the activations'. -/
def dq (j : Fin 16) : DmaSem sig := ⟨j.val + 3, by have := j.isLt; show j.val + 3 < 19; omega⟩
theorem dq_val (j : Fin 16) : (dq j).val = j.val + 3 := rfl
set_option backward.proofsInPublic true in
def sndJ (h : Fin 7) : Fin 16 := ⟨h.val, by omega⟩
set_option backward.proofsInPublic true in
def rcvJ (h : Fin 7) : Fin 16 := ⟨h.val + 7, by omega⟩

abbrev barC (c : Dev nD) : GSem nD τ sig := ((c : Thread nD τ), .reg barS)
abbrev dmaC (c : Dev nD) (j : Fin 16) : GSem nD τ sig := ((c : Thread nD τ), .dma (dq j))
abbrev sndC (c : Dev nD) (h : Fin 7) : GSem nD τ sig := dmaC c (sndJ h)
abbrev rcvC (c : Dev nD) (h : Fin 7) : GSem nD τ sig := dmaC c (rcvJ h)
abbrev cpyC (c : Dev nD) : GSem nD τ sig := dmaC c 14
abbrev actC (c : Dev nD) : GSem nD τ sig := dmaC c 15

/-- The bytes of a slot, of the key/value stage, of the activations' stage, as a transfer counts them. -/
abbrev NS : ℕ := (slotM ![0, 0, 0, 0, 0] (by decide)).view.dmaCredit
abbrev NK : ℕ := kvM.view.dmaCredit
abbrev NX : ℕ := xM.view.dmaCredit
theorem NS_pos : 0 < NS := View.dmaCredit_pos _ (by decide)
theorem NK_pos : 0 < NK := View.dmaCredit_pos _ (by decide)
theorem NX_pos : 0 < NX := View.dmaCredit_pos _ (by decide)
theorem slotM_credit (off : Fin 5 → ℕ) (inb) : (slotM off inb).view.dmaCredit = NS := rfl

/-! ## What the payments hand over -/

abbrev commL (c : Dev nD) : Loc nD τ sig := (c : Thread nD τ).loc cc0_scratch0
abbrev kvL (c : Dev nD) : Loc nD τ sig := (c : Thread nD τ).loc cc0_scratch3
abbrev xL (c : Dev nD) : Loc nD τ sig := (c : Thread nD τ).loc cc0_scratch4
abbrev a0L (c : Dev nD) : Loc nD τ sig := (c : Thread nD τ).loc main_arg0
abbrev a2L (c : Dev nD) : Loc nD τ sig := (c : Thread nD τ).loc main_arg2
abbrev a3L (c : Dev nD) : Loc nD τ sig := (c : Thread nD τ).loc main_arg3

/-- Batch `b` of the activations, as the copy into the stage addresses it. -/
abbrev rowM (off : Fin 3 → ℕ) (inb : ∀ a, off a + S1x512x768.size a ≤ S2x512x768.size a) : Memref sig .tc .hbm S512x768 .f32 :=
  (xH.slice (Rect.unit (s := S2x512x768) off S1x512x768.size inb) (fun _ => rfl)).squeeze S512x768 squeezes_S1x512x768_S512x768
abbrev rowM0 : Memref sig .tc .hbm S512x768 .f32 := rowM ![0, 0, 0] inb_S2x512x768_S1x512x768_0_0_0
abbrev rowM1 : Memref sig .tc .hbm S512x768 .f32 := rowM ![1, 0, 0] inb_S2x512x768_S1x512x768_1_0_0

/-- What the activations' stage holds after batch 0's, batch 1's copy. -/
def row0 (c : Dev nD) : (cc0_scratch4 : Ref sig .tc).ty.Contents (Elt F) := rowM0.view.read (Elt F) (m (a0L c))
def row1 (c : Dev nD) : (cc0_scratch4 : Ref sig .tc).ty.Contents (Elt F) := rowM1.view.read (Elt F) (m (a0L c))

def barPay (c : Dev nD) : sProp 𝕄 := iprop(∃ f : Buf (Elt F) (commL (rgt c)), commL (rgt c) ↦[togo c 0]{fullShare} f)
def sndPay (c : Dev nD) (h : ℕ) : sProp 𝕄 := commL c ↦[slot (sends c h)]{fullShare} allC m
def rcvPay (c : Dev nD) (h : ℕ) : sProp 𝕄 := commL c ↦[slot (sends (lft c) h)]{fullShare} allC m
def cpyPay (c : Dev nD) (r : ℕ) : sProp 𝕄 :=
  if r = 0 then iprop((kvL c ↦{fullShare} (m (a2L c) : (cc0_scratch3 : Ref sig .tc).ty.Contents (Elt F))) ∗ (a2L c ↦{fullShare} m (a2L c)))
  else iprop((kvL c ↦{fullShare} (m (a3L c) : (cc0_scratch3 : Ref sig .tc).ty.Contents (Elt F))) ∗ (a3L c ↦{fullShare} m (a3L c)))
def actPay (c : Dev nD) (r : ℕ) : sProp 𝕄 :=
  if r = 0 then iprop((xL c ↦{fullShare} row0 m c) ∗ (a0L c ↦[rowM0.view.set]{fullShare} m (a0L c)))
  else iprop((xL c ↦{fullShare} row1 m c) ∗ (a0L c ↦[rowM1.view.set]{fullShare} m (a0L c)))

/-- The payments of one of the kernel's own semaphores, by its place in the pool. -/
def dmaPay (c : Dev nD) (q r : ℕ) : sProp 𝕄 :=
  if q < 3 then iprop(emp) else if q < 10 then sndPay m c (q - 3) else if q < 17 then rcvPay m c (q - 10)
  else if q = 17 then cpyPay m c r else actPay m c r

/-! ## The schedule -/

def dutyOf (sm : SemLoc sig) (r : ℕ) : Finset Bool :=
  match sm with
  | .reg b => if b = barS ∧ r = 0 then Finset.univ else ∅
  | .dma q => if q.val < 3 then ∅ else if q.val < 17 then (if r = 0 then {false} else ∅) else (if r < 2 then {false} else ∅)
def amtOf (sm : SemLoc sig) : ℕ :=
  match sm with
  | .reg _ => 1
  | .dma q => if q.val < 17 then NS else if q.val = 17 then NK else NX
def payOf (c : Dev nD) (sm : SemLoc sig) (r : ℕ) (d : Bool) : sProp 𝕄 :=
  match sm with
  | .reg _ => if d then barPay c else iprop(emp)
  | .dma q => dmaPay m c q.val r

theorem amtOf_pos (sm : SemLoc sig) : 0 < amtOf sm := by
  unfold amtOf; split
  · exact Nat.one_pos
  · split
    · exact NS_pos
    · split
      · exact NK_pos
      · exact NX_pos

def sched : Rounds.Schedule (GSem nD τ sig) Bool 𝕄 where
  duties g r := if g.1.2 = .tc then dutyOf g.2 r else ∅
  unitless _ := False
  amount g _ _ := amtOf g.2
  payload g r d := payOf m g.1.1 g.2 r d
  amount_pos g _ _ _ := amtOf_pos g.2

instance sched_storable (g : GSem nD τ sig) (r : ℕ) (d : Bool) :
    BI.Storable (upEmb : UEmb _ 𝕄) ((sched (F := F) m).payload g r d) := by
  show BI.Storable upEmb (payOf m g.1.1 g.2 r d)
  unfold payOf dmaPay barPay sndPay rcvPay cpyPay actPay
  (repeat' split) <;> infer_instance

section Facts
variable (c : Dev nD)

theorem duties_bar : (sched (F := F) m).duties (barC c) 0 = Finset.univ := by
  dsimp only [sched, dutyOf]; rw [if_pos rfl, if_pos ⟨rfl, rfl⟩]
theorem duties_hop (j : Fin 16) (hj : j.val < 14) : (sched (F := F) m).duties (dmaC c j) 0 = {false} := by
  dsimp only [sched, dutyOf]; rw [if_pos rfl, if_neg (by rw [dq_val]; omega), if_pos (by rw [dq_val]; omega), if_pos rfl]
theorem duties_two (j : Fin 16) (hj : 14 ≤ j.val) (r : ℕ) (hr : r < 2) : (sched (F := F) m).duties (dmaC c j) r = {false} := by
  dsimp only [sched, dutyOf]; rw [if_pos rfl, if_neg (by rw [dq_val]; omega), if_neg (by rw [dq_val]; omega), if_pos hr]
theorem done_bar : ∀ r, 1 ≤ r → (sched (F := F) m).duties (barC c) r = ∅ := fun r hr => by
  dsimp only [sched, dutyOf]; rw [if_pos rfl, if_neg (fun h => by omega)]
theorem done_hop (j : Fin 16) (hj : j.val < 14) : ∀ r, 1 ≤ r → (sched (F := F) m).duties (dmaC c j) r = ∅ := fun r hr => by
  dsimp only [sched, dutyOf]; rw [if_pos rfl, if_neg (by rw [dq_val]; omega), if_pos (by rw [dq_val]; omega), if_neg (by omega)]
theorem done_two (j : Fin 16) (hj : 14 ≤ j.val) : ∀ r, 2 ≤ r → (sched (F := F) m).duties (dmaC c j) r = ∅ := fun r hr => by
  dsimp only [sched, dutyOf]; rw [if_pos rfl, if_neg (by rw [dq_val]; omega), if_neg (by rw [dq_val]; omega), if_neg (by omega)]

theorem amt_bar (r : ℕ) (d : Bool) : (sched (F := F) m).amount (barC c) r d = 1 := rfl
theorem amt_hop (j : Fin 16) (hj : j.val < 14) (r : ℕ) (d : Bool) : (sched (F := F) m).amount (dmaC c j) r d = NS := by
  dsimp only [sched, amtOf]; exact if_pos (by rw [dq_val]; omega)
theorem amt_cpy (r : ℕ) (d : Bool) : (sched (F := F) m).amount (cpyC c) r d = NK := by
  dsimp only [sched, amtOf]; rw [if_neg (by decide), if_pos (by decide)]
theorem amt_act (r : ℕ) (d : Bool) : (sched (F := F) m).amount (actC c) r d = NX := by
  dsimp only [sched, amtOf]; rw [if_neg (by decide), if_neg (by decide)]

theorem exp_bar : (sched (F := F) m).expect (barC c) 0 = 2 := by
  unfold Schedule.expect Schedule.amountOf
  rw [duties_bar, Finset.sum_congr rfl fun d _ => amt_bar m c 0 d]; rfl
theorem exp_one {g : GSem nD τ sig} {r N : ℕ} (hd : (sched (F := F) m).duties g r = {false}) (ha : (sched (F := F) m).amount g r false = N) :
    (sched (F := F) m).expect g r = N := by
  unfold Schedule.expect Schedule.amountOf; rw [hd, Finset.sum_singleton, ha]

theorem pay_bar_true (r : ℕ) : (sched (F := F) m).payload (barC c) r true = barPay c := rfl
theorem pay_bar_false (r : ℕ) : (sched (F := F) m).payload (barC c) r false = iprop(emp) := rfl
theorem pay_dma (j : Fin 16) (r : ℕ) (d : Bool) : (sched (F := F) m).payload (dmaC c j) r d = dmaPay m c (j.val + 3) r := rfl
theorem pay_snd (h : Fin 7) (r : ℕ) (d : Bool) : (sched (F := F) m).payload (sndC c h) r d = sndPay m c h.val := by
  rw [pay_dma]; unfold dmaPay; have := h.isLt
  rw [if_neg (by show ¬ h.val + 3 < 3; omega), if_pos (by show h.val + 3 < 10; omega)]; rfl
theorem pay_rcv (h : Fin 7) (r : ℕ) (d : Bool) : (sched (F := F) m).payload (rcvC c h) r d = rcvPay m c h.val := by
  rw [pay_dma]; unfold dmaPay; have := h.isLt
  rw [if_neg (by show ¬ h.val + 7 + 3 < 3; omega), if_neg (by show ¬ h.val + 7 + 3 < 10; omega), if_pos (by show h.val + 7 + 3 < 17; omega)]
  rw [show (rcvJ h).val + 3 - 10 = h.val from by show h.val + 7 + 3 - 10 = h.val; omega]
theorem pay_cpy (r : ℕ) (d : Bool) : (sched (F := F) m).payload (cpyC c) r d = cpyPay m c r := by
  rw [pay_dma]; unfold dmaPay; rw [if_neg (by decide), if_neg (by decide), if_neg (by decide), if_pos (by decide)]
theorem pay_act (r : ℕ) (d : Bool) : (sched (F := F) m).payload (actC c) r d = actPay m c r := by
  rw [pay_dma]; unfold dmaPay; rw [if_neg (by decide), if_neg (by decide), if_neg (by decide), if_neg (by decide)]

theorem rest_bar : bigSep ((sched (F := F) m).duties (barC c) 0 \ ∅) (fun d => (sched (F := F) m).payload (barC c) 0 d) = iprop(emp ∗ barPay c) := by
  rw [Finset.sdiff_empty, duties_bar, bigSep_univ_eq_bigSepL [false, true] (by decide) (by decide), bigSepL_cons_cons, bigSepL_singleton]
  rfl
theorem rest_one {g : GSem nD τ sig} {r : ℕ} (hd : (sched (F := F) m).duties g r = {false}) :
    bigSep ((sched (F := F) m).duties g r \ ∅) (fun d => (sched (F := F) m).payload g r d) = (sched (F := F) m).payload g r false := by
  rw [Finset.sdiff_empty, hd, bigSep_singleton]

end Facts

/-! ## What each device owes at launch -/

/-- The receive credits of its right neighbour that device `c` still owes before hop `r`. -/
def owed (c : Dev nD) (r : ℕ) : CellTallies nD τ sig Unit :=
  ∑ h ∈ (Finset.univ : Finset (Fin 7)).filter (fun h => r ≤ h.val), tallyAt (rcvC (rgt c) h) () NS

/-- The signals come first: to the left, then to the right. -/
def owedL (c : Dev nD) : CellTallies nD τ sig Unit := owed c 0 + tallyAt (barC (rgt c)) () 1
def owed₀ (c : Dev nD) : CellTallies nD τ sig Unit := owedL c + tallyAt (barC (lft c)) () 1

theorem owed_step (c : Dev nD) (h : Fin 7) : owed c h.val = owed c (h.val + 1) + tallyAt (rcvC (rgt c) h) () NS := by
  unfold owed
  rw [show (Finset.univ : Finset (Fin 7)).filter (fun k => h.val ≤ k.val) = insert h ((Finset.univ : Finset (Fin 7)).filter (fun k => h.val + 1 ≤ k.val)) from by
    ext k; simp only [Finset.mem_filter, Finset.mem_univ, true_and, Finset.mem_insert, Fin.ext_iff]; omega]
  rw [Finset.sum_insert (by simp only [Finset.mem_filter, Finset.mem_univ, true_and]; omega), add_comm]
theorem owed_seven (c : Dev nD) : owed c 7 = 0 := by
  unfold owed
  rw [show (Finset.univ : Finset (Fin 7)).filter (fun k => 7 ≤ k.val) = ∅ from by decide, Finset.sum_empty]

def L (g : GSem nD τ sig) : Finset Unit := if g.1.2 = .tc then {()} else ∅
/-- The levels: what is waited for late lies high. -/
def lv (g : GSem nD τ sig) (_ : Unit) : ℕ :=
  match g.2 with
  | .reg _ => 1
  | .dma q => if q.val < 10 then 0 else if q.val < 17 then q.val - 8 else 0

theorem L_of_ne (g : GSem nD τ sig) (h : g.1.2 ≠ .tc) : L g = ∅ := if_neg h
theorem L_tc (c : Dev nD) (sm : SemLoc sig) : L ((c : Thread nD τ), sm) = {()} := if_pos rfl
theorem lv_rcv (c : Dev nD) (h : Fin 7) (u : Unit) : lv (rcvC c h) u = h.val + 2 := by
  dsimp only [lv]; have := h.isLt
  rw [dq_val, if_neg (by show ¬ h.val + 7 + 3 < 10; omega), if_pos (by show h.val + 7 + 3 < 17; omega)]
  show h.val + 7 + 3 - 8 = h.val + 2; omega
theorem lv_low (c : Dev nD) (q : DmaSem sig) (hq : q.val < 10 ∨ 17 ≤ q.val) (u : Unit) : lv ((c : Thread nD τ), .dma q) u = 0 := by
  dsimp only [lv]; rcases hq with h | h
  · exact if_pos h
  · rw [if_neg (by omega), if_neg (by omega)]

theorem owed_pos {c : Dev nD} {r : ℕ} {g : GSem nD τ sig} {u : Unit} (h : 0 < owed c r g u) : ∃ k : Fin 7, r ≤ k.val ∧ g = rcvC (rgt c) k := by
  by_contra hn
  push Not at hn
  unfold owed at h
  rw [Finset.sum_apply, Finsupp.finsetSum_apply, Finset.sum_eq_zero] at h
  · exact Nat.lt_irrefl 0 h
  · intro k hk
    rw [tallyAt_apply, if_neg (fun h' => hn k (Finset.mem_filter.mp hk).2 h'.1)]
theorem owed₀_pos {c : Dev nD} {g : GSem nD τ sig} {u : Unit} (h : 0 < owed₀ c g u) :
    (∃ k : Fin 7, g = rcvC (rgt c) k) ∨ g = barC (rgt c) ∨ g = barC (lft c) := by
  unfold owed₀ owedL at h
  rw [Pi.add_apply, Finsupp.add_apply, Pi.add_apply, Finsupp.add_apply, tallyAt_apply, tallyAt_apply] at h
  by_contra hn
  push Not at hn
  rw [if_neg (fun h' => hn.2.1 h'.1), if_neg (fun h' => hn.2.2 h'.1), add_zero, add_zero] at h
  obtain ⟨k, -, hk⟩ := owed_pos h
  exact hn.1 k hk

theorem lone_mem (c : Dev nD) (sm : SemLoc sig) (u : Unit) : u ∈ L ((c : Thread nD τ), sm) := by rw [L_tc]; exact Finset.mem_singleton_self _

/-- A wait of level below `n + 1` while only receive credits of hops from `r` on are owed, `n < r + 2`. -/
theorem may_owed (c : Dev nD) (sm : SemLoc sig) (r n : ℕ) (hlv : lv ((c : Thread nD τ), sm) () ≤ n) (hn : n < r + 2) :
    (levAts L lv : sProp 𝕄) ⊢ MayWait (c : Thread nD τ) sm () (owed c r) :=
  MayOwe.of_cut (L := L) (lev := lv) n (fun p hp => by rw [Finset.mem_singleton.mp hp]; exact lone_mem c sm ())
    (fun g u hg => by obtain ⟨k, -, rfl⟩ := owed_pos hg; exact lone_mem _ _ _)
    (fun p hp => by rw [Finset.mem_singleton.mp hp]; exact hlv)
    (fun g u hg => by obtain ⟨k, hk, rfl⟩ := owed_pos hg; rw [lv_rcv]; omega)
theorem may_stage (c : Dev nD) (q : DmaSem sig) (hq : q.val < 3) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact lone_mem c _ ())
      (fun g u hg => by rcases owed₀_pos hg with ⟨k, rfl⟩ | rfl | rfl <;> exact lone_mem _ _ _)
      (fun p hp => by rw [Finset.mem_singleton.mp hp]; exact (lv_low c q (by omega) ()).le)
      (fun g u hg => by
        rcases owed₀_pos hg with ⟨k, rfl⟩ | rfl | rfl
        · rw [lv_rcv]; omega
        · exact Nat.one_pos
        · exact Nat.one_pos)
  · rw [MayWait_zero]; iintro -; iempintro

/-! ## The cells by name -/

set_option backward.proofsInPublic true in
/-- The seventeen cells of a device that the ring runs on: the barrier's, then the kernel's own. -/
def csem (j : Fin 17) : SemLoc sig := if h : j.val = 0 then .reg barS else .dma (dq ⟨j.val - 1, by omega⟩)
abbrev kcell (cj : Dev nD × Fin 17) : GSem nD τ sig := ((cj.1 : Thread nD τ), csem cj.2)
abbrev osem (j : Fin 16) : SemLoc sig := .dma (dq j)

theorem csem_succ (j : Fin 16) : csem j.succ = .dma (dq j) := by
  unfold csem; rw [dif_neg (by simp)]; rfl
theorem kcell_bar (c : Dev nD) : kcell (c, 0) = barC c := rfl
theorem kcell_dma (c : Dev nD) (j : Fin 16) : kcell (c, j.succ) = dmaC c j := by show ((c : Thread nD τ), csem j.succ) = _; rw [csem_succ]

theorem csem_inj : Function.Injective csem := by decide
theorem kcell_inj : Function.Injective (kcell : Dev nD × Fin 17 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- All invariants, and that every cell is at round 0 at least: what every device may use. -/
def records (K : Dev nD × Fin 17 → ℕ) : sProp 𝕄 :=
  iprop((bigSep Finset.univ fun cj : Dev nD × Fin 17 => cellInv ER (sched m) (K cj) (kcell cj))
    ∗ bigSep Finset.univ fun cj : Dev nD × Fin 17 => reached ER (kcell cj) 0)

instance records_persistent (K : Dev nD × Fin 17 → ℕ) : BI.Persistent (records m K) := by unfold records; infer_instance

theorem inv_bar (K : Dev nD × Fin 17 → ℕ) (c : Dev nD) : records m K ⊢ cellInv ER (sched m) (K (c, 0)) (barC c) := by
  unfold records; exact sep_elim_left.trans (bigSep_elim (Finset.mem_univ (c, (0 : Fin 17))))
theorem inv_dma (K : Dev nD × Fin 17 → ℕ) (c : Dev nD) (j : Fin 16) : records m K ⊢ cellInv ER (sched m) (K (c, j.succ)) (dmaC c j) := by
  rw [← kcell_dma]; unfold records; exact sep_elim_left.trans (bigSep_elim (Finset.mem_univ (c, j.succ)))
theorem at_bar (K : Dev nD × Fin 17 → ℕ) (c : Dev nD) : records m K ⊢ reached ER (barC c) 0 := by
  unfold records; exact sep_elim_right.trans (bigSep_elim (Finset.mem_univ (c, (0 : Fin 17))))
theorem at_dma (K : Dev nD × Fin 17 → ℕ) (c : Dev nD) (j : Fin 16) : records m K ⊢ reached ER (dmaC c j) 0 := by
  rw [← kcell_dma]; unfold records; exact sep_elim_right.trans (bigSep_elim (Finset.mem_univ (c, j.succ)))

end Cert.Ring

end
-- ==== Proof.Fill.lean ====
/- What the device's buffers hold as the body goes on: its own ring slot, filled piece by piece; the scaled queries; the
   contexts of one batch and head, block of rows by block of rows; the result. Each buffer has one final content, and
   a store moves the region on which the buffer agrees with it. -/
module

public import proofs.«01_k».proof.Proof.Proto
public import Idealize.ShloMosaic.Lib.Pipeline.ValueKit.Geometry

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## A store that writes what the final content has there -/

/-- The buffer agrees with `g` on `P`; a store of `g`'s own elements makes it agree on any `P'` within `P` and the store. -/
theorem grow {κ : Kind} {sp : Space} {s : Shape} {e : EltTy} (v : View sig κ sp s e) {f g : v.ty.Contents (Elt F)} {w : s.Idx → Elt F e} {P P' : v.ty.Idx → Prop}
    (hf : ∀ i, P i → f i = g i) (hw : w = v.read (Elt F) g) (hP : ∀ i, P' i → P i ∨ i ∈ v.set) :
    ∀ i, P' i → v.write (Elt F) f w Finset.univ i = g i := by
  subst hw
  intro i hi
  by_cases h : i ∈ v.set
  · exact write_read_on v i h
  · rw [View.write_of_not_mem _ _ _ (fun hh => h (View.setOn_univ v ▸ hh))]; exact hf i ((hP i hi).resolve_right h)

/-! ## The device's own slot -/

abbrev row3 (i : CI) : ℕ := ((i : S8x2x8x1024x64.Idx) 3).val

/-- Where piece `j` goes. -/
abbrev pieceV (off : Fin 5 → ℕ) (inb : ∀ a, off a + S1x2x8x64x64.size a ≤ S8x2x8x1024x64.size a) :=
  (commM : Memref sig .tc .vmem S8x2x8x1024x64 .bf16).access (Rect.unit (s := S8x2x8x1024x64) off S1x2x8x64x64.size inb)

theorem mem_piece {off : Fin 5 → ℕ} {inb} {s p : ℕ} (h : off = ![s, 0, 0, p, 0]) (i : CI) :
    i ∈ (pieceV off inb).set ↔ at0 i = s ∧ p ≤ row3 i ∧ row3 i < p + 64 := by
  subst h
  refine ValueKit.mem_set_slice_whole_iff cc0_scratch0 _ i (Rect.mem_set_unit.trans ?_)
  constructor
  · intro hh
    have h0 := hh 0; have h3 := hh 3
    change s ≤ at0 i ∧ at0 i < s + 1 at h0
    change p ≤ row3 i ∧ row3 i < p + 64 at h3
    exact ⟨by omega, h3⟩
  · rintro ⟨h0, h3⟩ a
    fin_cases a
    · change s ≤ at0 i ∧ at0 i < s + 1; omega
    · exact ⟨Nat.zero_le _, ((i : S8x2x8x1024x64.Idx) 1).isLt.trans_eq (Nat.zero_add _).symm⟩
    · exact ⟨Nat.zero_le _, ((i : S8x2x8x1024x64.Idx) 2).isLt.trans_eq (Nat.zero_add _).symm⟩
    · exact h3
    · exact ⟨Nat.zero_le _, ((i : S8x2x8x1024x64.Idx) 4).isLt.trans_eq (Nat.zero_add _).symm⟩

theorem piece_sub {off : Fin 5 → ℕ} {inb} {s p : ℕ} (h : off = ![s, 0, 0, p, 0]) : (pieceV off inb).set ⊆ slot s :=
  fun i hi => mem_slot.mpr ((mem_piece h i).mp hi).1

/-- Rows `o … o+63` of a device's transposed shard, as a piece. -/
def pieceOf (V : FVec F S2x8x512x64 .bf16) (o : ℕ) (hs : S2x8x512x64.Slices ![0, 0, o, 0] S2x8x64x64) : FVec F S1x2x8x64x64 .bf16 :=
  shapeCast S1x2x8x64x64 (extractStridedSlice S2x8x64x64 ![0, 0, o, 0] V hs) shapeCasts_S2x8x64x64_S1x2x8x64x64

theorem pieceOf_at (V : FVec F S2x8x512x64 .bf16) (o : ℕ) (hs) (ho : o + 64 ≤ 512) (b : Fin 2) (h : Fin 8) (r d : Fin 64) :
    pieceOf V o hs (ix5 0 b h r d) = V (ix4 b h ⟨o + r.val, by omega⟩ d) := by
  pointwise [pieceOf]

/-- The element of the ring buffer at the given coordinates. -/
abbrev ixC (s : Fin 8) (b : Fin 2) (h : Fin 8) (r : Fin 1024) (d : Fin 64) : CI := (ix5 s b h r d : S8x2x8x1024x64.Idx)

theorem piece_emb {off : Fin 5 → ℕ} {inb} {s p : ℕ} (hs : s < 8) (hp : p + 64 ≤ 1024) (h : off = ![s, 0, 0, p, 0]) (b : Fin 2) (hh : Fin 8) (r d : Fin 64) :
    (Rect.unit (s := S8x2x8x1024x64) off S1x2x8x64x64.size inb).emb (ix5 0 b hh r d : S1x2x8x64x64.Idx) = ixC ⟨s, hs⟩ b hh ⟨p + r.val, by omega⟩ d := by
  subst h
  funext a
  refine Fin.ext ((ValueKit.rect_emb_unit_val _ _ _ _ a).trans ?_)
  fin_cases a
  · rfl
  · exact Nat.zero_add _
  · exact Nat.zero_add _
  · rfl
  · exact Nat.zero_add _

theorem allC_key (s : Fin 8) (b : Fin 2) (h : Fin 8) (r : Fin 1024) (d : Fin 64) (hr : r.val < 512) :
    allC m (ixC s b h r d) = keyAt m s b h r.val hr d := by
  unfold allC; exact dif_pos hr
theorem allC_val (s : Fin 8) (b : Fin 2) (h : Fin 8) (r : Fin 1024) (d : Fin 64) (hr : ¬ r.val < 512) :
    allC m (ixC s b h r d) = valAt m s b h (r.val - 512) (by omega) d := by
  unfold allC; exact dif_neg hr

theorem piece_key (c : Dev nD) {off : Fin 5 → ℕ} {inb} (j : ℕ) (hj : j < 8) (o : ℕ) (ho : o = srcRow (64 * j)) (hoff : off = ![c.val, 0, 0, 64 * j, 0]) (hs) :
    pieceOf (k0_pay51 (F := F) (m (a2L c))) o hs = (pieceV off inb).read (Elt F) (allC m) := by
  funext x
  idx_vars x
  have hlt : o + 64 ≤ 512 := by subst ho; unfold srcRow; omega
  have hx : (0 : Fin 1) = x0 := Subsingleton.elim _ _
  subst hx
  rw [pieceOf_at _ _ _ hlt]
  refine Eq.trans ?_ (congrArg (allC m) (piece_emb c.isLt (by omega) hoff x1 x2 x3 x4)).symm
  rw [allC_key m _ _ _ _ _ (by show 64 * j + x3.val < 512; omega)]
  unfold keyAt
  refine congrArg (fun q => k0_pay51 (F := F) (m (a2L c)) (ix4 x1 x2 q x4)) (Fin.ext ?_)
  show o + x3.val = srcRow (64 * j + x3.val)
  subst ho; unfold srcRow; omega

theorem piece_val (c : Dev nD) {off : Fin 5 → ℕ} {inb} (j : ℕ) (hj : j < 8) (o : ℕ) (ho : o = srcRow (64 * j)) (hoff : off = ![c.val, 0, 0, 512 + 64 * j, 0]) (hs) :
    pieceOf (k0_pay60 (F := F) (m (a3L c))) o hs = (pieceV off inb).read (Elt F) (allC m) := by
  funext x
  idx_vars x
  have hlt : o + 64 ≤ 512 := by subst ho; unfold srcRow; omega
  have hx : (0 : Fin 1) = x0 := Subsingleton.elim _ _
  subst hx
  rw [pieceOf_at _ _ _ hlt]
  refine Eq.trans ?_ (congrArg (allC m) (piece_emb c.isLt (by omega) hoff x1 x2 x3 x4)).symm
  rw [allC_val m _ _ _ _ _ (by show ¬ 512 + 64 * j + x3.val < 512; omega)]
  unfold valAt
  refine congrArg (fun q => k0_pay60 (F := F) (m (a3L c)) (ix4 x1 x2 q x4)) (Fin.ext ?_)
  show o + x3.val = srcRow (512 + 64 * j + x3.val - 512)
  rw [show 512 + 64 * j + x3.val - 512 = 64 * j + x3.val from by omega]
  subst ho; unfold srcRow; omega

/-- Device `c`'s slot agrees with its final content on its first `64 * n` rows. -/
def Packed (c : Dev nD) (n : ℕ) (f : (cc0_scratch0 : Ref sig .tc).ty.Contents (Elt F)) : Prop :=
  ∀ i : CI, (at0 i = c.val ∧ row3 i < 64 * n) → f i = allC m i

theorem packed_zero (c : Dev nD) (f) : Packed m c 0 f := fun i h => absurd h.2 (by omega)
theorem packed_all (c : Dev nD) {f} (h : Packed m c 16 f) : ∀ i ∈ slot c.val, f i = allC m i := fun i hi =>
  h i ⟨mem_slot.mp hi, ((i : S8x2x8x1024x64.Idx) 3).isLt⟩
theorem packed_step (c : Dev nD) {off : Fin 5 → ℕ} {inb} {n p : ℕ} (hp : p = 64 * n) (hoff : off = ![c.val, 0, 0, p, 0]) {f} (h : Packed m c n f) {w}
    (hw : w = (pieceV off inb).read (Elt F) (allC m)) : Packed m c (n + 1) ((pieceV off inb).write (Elt F) f w Finset.univ) := by
  subst hp
  exact grow (pieceV off inb) h hw fun i hi => by
    by_cases hr : row3 i < 64 * n
    · exact Or.inl ⟨hi.1, hr⟩
    · exact Or.inr ((mem_piece hoff i).mpr ⟨hi.1, by omega, by omega⟩)

/-! ## The queries -/

abbrev QI : Type := (cc0_scratch1 : Ref sig .tc).ty.Idx
abbrev ixQ (b : Fin 2) (h : Fin 8) (r : Fin 512) (d : Fin 64) : QI := (ix4 b h r d : S2x8x512x64.Idx)

/-- The query weights and the output weights, as staged. -/
def wqv (c : Dev nD) : (cc0_stg0_0 : Ref sig .tc).ty.Contents (Elt F) := (win0_0.blk (0 : Fin 1)).view.read (Elt F) (m ((c : Thread nD τ).loc main_arg1))
def wov (c : Dev nD) : (cc0_stg1_0 : Ref sig .tc).ty.Contents (Elt F) := (win0_1.blk (0 : Fin 1)).view.read (Elt F) (m ((c : Thread nD τ).loc main_arg4))

/-- The scaled queries of batch `b`, head by head. -/
def qBat (c : Dev nD) (b : Fin 2) : FVec F S1x8x512x64 .bf16 :=
  if b.val = 0 then k0_pay71 (F := F) (k0_pay70 (wqv m c) (row0 m c)) else k0_pay72 (F := F) (k0_pay69 (wqv m c)) (row1 m c)
set_option backward.proofsInPublic true in
def qAll (c : Dev nD) : (cc0_scratch1 : Ref sig .tc).ty.Contents (Elt F) := fun i =>
  have j : S2x8x512x64.Idx := i
  qBat m c (j 0) (ix4 0 (j 1) (j 2) (j 3))

/-- Where one batch of the queries goes. -/
abbrev qbatV (off : Fin 4 → ℕ) (inb : ∀ a, off a + S1x8x512x64.size a ≤ S2x8x512x64.size a) :=
  (qM : Memref sig .tc .vmem S2x8x512x64 .bf16).access (Rect.unit (s := S2x8x512x64) off S1x8x512x64.size inb)

theorem bat_emb {off : Fin 4 → ℕ} {inb} {b : ℕ} (hb : b < 2) (h : off = ![b, 0, 0, 0]) (hh : Fin 8) (r : Fin 512) (d : Fin 64) :
    (Rect.unit (s := S2x8x512x64) off S1x8x512x64.size inb).emb (ix4 0 hh r d : S1x8x512x64.Idx) = (ix4 ⟨b, hb⟩ hh r d : S2x8x512x64.Idx) := by
  subst h
  funext a
  refine Fin.ext ((ValueKit.rect_emb_unit_val _ _ _ _ a).trans ?_)
  fin_cases a
  · rfl
  · exact Nat.zero_add _
  · exact Nat.zero_add _
  · exact Nat.zero_add _

theorem mem_bat {off : Fin 4 → ℕ} {inb} {b : ℕ} (h : off = ![b, 0, 0, 0]) (i : S2x8x512x64.Idx) :
    i ∈ (Rect.unit (s := S2x8x512x64) off S1x8x512x64.size inb).set ↔ (i 0).val = b := by
  subst h
  refine Rect.mem_set_unit.trans ?_
  constructor
  · intro hh
    have h0 := hh 0
    change b ≤ (i 0).val ∧ (i 0).val < b + 1 at h0
    omega
  · intro h0 a
    fin_cases a
    · change b ≤ (i 0).val ∧ (i 0).val < b + 1; omega
    · exact ⟨Nat.zero_le _, (i 1).isLt.trans_eq (Nat.zero_add _).symm⟩
    · exact ⟨Nat.zero_le _, (i 2).isLt.trans_eq (Nat.zero_add _).symm⟩
    · exact ⟨Nat.zero_le _, (i 3).isLt.trans_eq (Nat.zero_add _).symm⟩

/-- The queries' buffer agrees with its final content on its first `n` batches. -/
def Asked (c : Dev nD) (n : ℕ) (f : (cc0_scratch1 : Ref sig .tc).ty.Contents (Elt F)) : Prop :=
  ∀ i : QI, ((i : S2x8x512x64.Idx) 0).val < n → f i = qAll m c i

theorem asked_zero (c : Dev nD) (f) : Asked m c 0 f := fun i h => absurd h (Nat.not_lt_zero _)
theorem asked_all (c : Dev nD) {f} (h : Asked m c 2 f) : f = qAll m c := funext fun i => h i ((i : S2x8x512x64.Idx) 0).isLt
theorem asked_step (c : Dev nD) {off : Fin 4 → ℕ} {inb} (n : Fin 2) (hoff : off = ![n.val, 0, 0, 0]) {f} (h : Asked m c n.val f) {w} (hw : w = qBat m c n) :
    Asked m c (n.val + 1) ((qbatV off inb).write (Elt F) f w Finset.univ) := by
  refine grow (qbatV off inb) h ?_ fun i hi => ?_
  · subst hw
    funext x
    idx_vars x
    have hx : (0 : Fin 1) = x0 := Subsingleton.elim _ _
    subst hx
    exact (congrArg (qAll m c) (bat_emb n.isLt hoff x1 x2 x3)).symm
  · by_cases hr : ((i : S2x8x512x64.Idx) 0).val < n.val
    · exact Or.inl hr
    · exact Or.inr ((ValueKit.mem_set_slice_whole_iff cc0_scratch1 _ i (mem_bat hoff i)).mpr (by omega))

/-! ## The contexts -/

set_option backward.proofsInPublic true in
/-- 64 rows of the queries: block `t` of batch `b`, head `h`. -/
def qBlk (c : Dev nD) (b : Fin 2) (h : Fin 8) (t : Fin 8) : Vec F S1x1x64x64 .bf16 := fun x =>
  qAll m c (ixQ b h ⟨64 * t.val + (x 2).val, by have := (x 2).isLt; change (x 2).val < 64 at this; omega⟩ (x 3))
set_option backward.proofsInPublic true in
/-- 128 rows of slot `s`, batch `b`, head `h`: keys of class `o` if `o < 4`, values of class `o - 4` otherwise. -/
def cBlk (s : Fin 8) (b : Fin 2) (h : Fin 8) (o : Fin 8) : Vec F S1x1x1x128x64 .bf16 := fun x =>
  allC m (ixC s b h ⟨128 * o.val + (x 3).val, by have := (x 3).isLt; change (x 3).val < 128 at this; omega⟩ (x 4))

/-- Attention of two query blocks over the keys and values of one class. -/
def attTile (q0 q1 : Vec F S1x1x64x64 .bf16) (k v : Fin 8 → Vec F S1x1x1x128x64 .bf16) : FVec F S128x64 .bf16 :=
  k0_pay10 (k0_pay3 q0 q1) (k0_pay6 (k0_pay4 (k 0)) (k0_pay5 (k 1)) (k 2) (k 3) (k 4) (k 5) (k 6) (k 7))
    (k0_pay7 (v 0)) (k0_pay8 (v 1)) (k0_pay9 (v 2)) (v 3) (v 4) (v 5) (v 6) (v 7)

set_option backward.proofsInPublic true in
/-- The contexts of class `s`: its two blocks' rows, one under the other. -/
def tile (c : Dev nD) (b : Fin 2) (h : Fin 8) (s : Fin 4) : FVec F S128x64 .bf16 :=
  attTile (qBlk m c b h ⟨s.val, by omega⟩) (qBlk m c b h ⟨s.val + 4, by omega⟩) (fun e => cBlk m e b h ⟨s.val, by omega⟩) (fun e => cBlk m e b h ⟨s.val + 4, by omega⟩)

set_option backward.proofsInPublic true in
def ctxAll (c : Dev nD) : (cc0_scratch2 : Ref sig .tc).ty.Contents (Elt F) := fun i =>
  have j : S2x8x512x64.Idx := i
  tile m c (j 0) (j 1) ⟨(j 2).val / 64 % 4, Nat.mod_lt _ (by decide)⟩
    (ix2 ⟨64 * ((j 2).val / 256) + (j 2).val % 64, by have := (j 2).isLt; change (j 2).val < 512 at this; omega⟩ (j 3))

/-- The upper or the lower half of a class's contexts, as a block of rows. -/
def halfTop (T : FVec F S128x64 .bf16) : FVec F S1x1x64x64 .bf16 :=
  shapeCast S1x1x64x64 (extractStridedSlice S64x64 ![0, 0] T slices_S128x64_o0_0_S64x64) shapeCasts_S64x64_S1x1x64x64
def halfBot (T : FVec F S128x64 .bf16) : FVec F S1x1x64x64 .bf16 :=
  shapeCast S1x1x64x64 (extractStridedSlice S64x64 ![64, 0] T slices_S128x64_o64_0_S64x64) shapeCasts_S64x64_S1x1x64x64

theorem halfTop_at (T : FVec F S128x64 .bf16) (r d : Fin 64) : halfTop T (ix4 0 0 r d) = T (ix2 ⟨r.val, by omega⟩ d) := by
  pointwise [halfTop]
theorem halfBot_at (T : FVec F S128x64 .bf16) (r d : Fin 64) : halfBot T (ix4 0 0 r d) = T (ix2 ⟨64 + r.val, by omega⟩ d) := by
  pointwise [halfBot]

/-- A block of 64 rows of one batch and head. -/
theorem blk_emb {off : Fin 4 → ℕ} {inb} {b h p : ℕ} (hb : b < 2) (hh : h < 8) (hp : p + 64 ≤ 512) (hoff : off = ![b, h, p, 0]) (r d : Fin 64) :
    (Rect.unit (s := S2x8x512x64) off S1x1x64x64.size inb).emb (ix4 0 0 r d : S1x1x64x64.Idx) = (ix4 ⟨b, hb⟩ ⟨h, hh⟩ ⟨p + r.val, by omega⟩ d : S2x8x512x64.Idx) := by
  subst hoff
  funext a
  refine Fin.ext ((ValueKit.rect_emb_unit_val _ _ _ _ a).trans ?_)
  fin_cases a
  · rfl
  · rfl
  · rfl
  · exact Nat.zero_add _

theorem mem_blk {off : Fin 4 → ℕ} {inb} {b h p : ℕ} (hoff : off = ![b, h, p, 0]) (i : S2x8x512x64.Idx) :
    i ∈ (Rect.unit (s := S2x8x512x64) off S1x1x64x64.size inb).set ↔ (i 0).val = b ∧ (i 1).val = h ∧ p ≤ (i 2).val ∧ (i 2).val < p + 64 := by
  subst hoff
  refine Rect.mem_set_unit.trans ?_
  constructor
  · intro hh
    have h0 := hh 0; have h1 := hh 1; have h2 := hh 2
    change b ≤ (i 0).val ∧ (i 0).val < b + 1 at h0
    change h ≤ (i 1).val ∧ (i 1).val < h + 1 at h1
    exact ⟨by omega, by omega, h2⟩
  · rintro ⟨h0, h1, h2⟩ a
    fin_cases a
    · change b ≤ (i 0).val ∧ (i 0).val < b + 1; omega
    · change h ≤ (i 1).val ∧ (i 1).val < h + 1; omega
    · exact h2
    · exact ⟨Nat.zero_le _, (i 3).isLt.trans_eq (Nat.zero_add _).symm⟩

/-- Where a block of contexts goes. -/
abbrev cblkV (off : Fin 4 → ℕ) (inb : ∀ a, off a + S1x1x64x64.size a ≤ S2x8x512x64.size a) :=
  (ctxM : Memref sig .tc .vmem S2x8x512x64 .bf16).access (Rect.unit (s := S2x8x512x64) off S1x1x64x64.size inb)

abbrev XI : Type := (cc0_scratch2 : Ref sig .tc).ty.Idx
abbrev ixX (b : Fin 2) (h : Fin 8) (r : Fin 512) (d : Fin 64) : XI := (ix4 b h r d : S2x8x512x64.Idx)
abbrev tripOf (i : XI) : ℕ := 8 * ((i : S2x8x512x64.Idx) 0).val + ((i : S2x8x512x64.Idx) 1).val
abbrev row2 (i : XI) : ℕ := ((i : S2x8x512x64.Idx) 2).val

theorem top_ctx (c : Dev nD) {off : Fin 4 → ℕ} {inb} (b : Fin 2) (h : Fin 8) (s : Fin 4) (hoff : off = ![b.val, h.val, 64 * s.val, 0]) :
    halfTop (tile m c b h s) = (cblkV off inb).read (Elt F) (ctxAll m c) := by
  funext x
  idx_vars x
  obtain rfl : (0 : Fin 1) = x0 := Subsingleton.elim _ _
  obtain rfl : (0 : Fin 1) = x1 := Subsingleton.elim _ _
  rw [halfTop_at]
  refine Eq.trans ?_ (congrArg (ctxAll m c) (blk_emb b.isLt h.isLt (by omega) hoff x2 x3)).symm
  unfold ctxAll
  show tile m c b h s _ = tile m c b h ⟨(64 * s.val + x2.val) / 64 % 4, _⟩ (ix2 ⟨64 * ((64 * s.val + x2.val) / 256) + (64 * s.val + x2.val) % 64, _⟩ x3)
  rw [show (⟨(64 * s.val + x2.val) / 64 % 4, Nat.mod_lt _ (by decide)⟩ : Fin 4) = s from Fin.ext (by show (64 * s.val + x2.val) / 64 % 4 = s.val; omega)]
  exact congrArg (fun q => tile m c b h s (ix2 q x3)) (Fin.ext (by show x2.val = 64 * ((64 * s.val + x2.val) / 256) + (64 * s.val + x2.val) % 64; omega))

theorem bot_ctx (c : Dev nD) {off : Fin 4 → ℕ} {inb} (b : Fin 2) (h : Fin 8) (s : Fin 4) (hoff : off = ![b.val, h.val, 64 * (s.val + 4), 0]) :
    halfBot (tile m c b h s) = (cblkV off inb).read (Elt F) (ctxAll m c) := by
  funext x
  idx_vars x
  obtain rfl : (0 : Fin 1) = x0 := Subsingleton.elim _ _
  obtain rfl : (0 : Fin 1) = x1 := Subsingleton.elim _ _
  rw [halfBot_at]
  refine Eq.trans ?_ (congrArg (ctxAll m c) (blk_emb b.isLt h.isLt (by omega) hoff x2 x3)).symm
  unfold ctxAll
  show tile m c b h s _ = tile m c b h ⟨(64 * (s.val + 4) + x2.val) / 64 % 4, _⟩ (ix2 ⟨64 * ((64 * (s.val + 4) + x2.val) / 256) + (64 * (s.val + 4) + x2.val) % 64, _⟩ x3)
  rw [show (⟨(64 * (s.val + 4) + x2.val) / 64 % 4, Nat.mod_lt _ (by decide)⟩ : Fin 4) = s from Fin.ext (by show (64 * (s.val + 4) + x2.val) / 64 % 4 = s.val; omega)]
  exact congrArg (fun q => tile m c b h s (ix2 q x3)) (Fin.ext (by show 64 + x2.val = 64 * ((64 * (s.val + 4) + x2.val) / 256) + (64 * (s.val + 4) + x2.val) % 64; omega))

/-- The contexts' buffer agrees with its final content for the batches and heads before trip `k`, and in trip `k` for the first `n` blocks
    in the order in which a trip stores them: block `s`, then block `s + 4`, for each class `s`. -/
def Mixed (c : Dev nD) (k n : ℕ) (f : (cc0_scratch2 : Ref sig .tc).ty.Contents (Elt F)) : Prop :=
  ∀ i : XI, (tripOf i < k ∨ tripOf i = k ∧ 2 * (row2 i / 64 % 4) + row2 i / 256 < n) → f i = ctxAll m c i

theorem mixed_zero (c : Dev nD) (f) : Mixed m c 0 0 f := fun i h => absurd h (by omega)
theorem mixed_all (c : Dev nD) {f} (h : Mixed m c 16 0 f) : f = ctxAll m c := funext fun i =>
  h i (Or.inl (by have h0 := ((i : S2x8x512x64.Idx) 0).isLt; have h1 := ((i : S2x8x512x64.Idx) 1).isLt
                  change ((i : S2x8x512x64.Idx) 0).val < 2 at h0; change ((i : S2x8x512x64.Idx) 1).val < 8 at h1
                  show 8 * ((i : S2x8x512x64.Idx) 0).val + ((i : S2x8x512x64.Idx) 1).val < 16; omega))
theorem mixed_next (c : Dev nD) {k : ℕ} {f} (h : Mixed m c k 8 f) : Mixed m c (k + 1) 0 f := fun i hi => h i (by
  have h2 : row2 i < 512 := ((i : S2x8x512x64.Idx) 2).isLt
  rcases hi with hi | hi
  · by_cases hk : tripOf i < k
    · exact Or.inl hk
    · exact Or.inr ⟨by omega, by omega⟩
  · exact absurd hi.2 (Nat.not_lt_zero _))

theorem mixed_step (c : Dev nD) {off : Fin 4 → ℕ} {inb} {k n t : ℕ} (hn : ∀ r, r / 64 ≠ t → 2 * (r / 64 % 4) + r / 256 < n + 1 → r < 512 → 2 * (r / 64 % 4) + r / 256 < n)
    (hoff : off = ![k / 8, k % 8, 64 * t, 0]) {f} (h : Mixed m c k n f) {w}
    (hw : w = (cblkV off inb).read (Elt F) (ctxAll m c)) : Mixed m c k (n + 1) ((cblkV off inb).write (Elt F) f w Finset.univ) :=
  grow (cblkV off inb) h hw fun i hi => by
    have h2 : row2 i < 512 := ((i : S2x8x512x64.Idx) 2).isLt
    have h1 : ((i : S2x8x512x64.Idx) 1).val < 8 := ((i : S2x8x512x64.Idx) 1).isLt
    rcases hi with hi | ⟨hk, hi⟩
    · exact Or.inl (Or.inl hi)
    · by_cases ht : row2 i / 64 = t
      · refine Or.inr ((ValueKit.mem_set_slice_whole_iff cc0_scratch2 _ i (mem_blk hoff i)).mpr ⟨?_, ?_, ?_, ?_⟩)
        · change 8 * ((i : S2x8x512x64.Idx) 0).val + ((i : S2x8x512x64.Idx) 1).val = k at hk; omega
        · change 8 * ((i : S2x8x512x64.Idx) 0).val + ((i : S2x8x512x64.Idx) 1).val = k at hk; omega
        · change 64 * t ≤ row2 i; omega
        · change row2 i < 64 * t + 64; omega
      · exact Or.inl (Or.inr ⟨hk, hn _ ht hi h2⟩)

/-! ## The result -/

set_option backward.proofsInPublic true in
def ctxBat (c : Dev nD) (b : Fin 2) : Vec F S1x8x512x64 .bf16 := fun x => ctxAll m c (ixX b (x 1) (x 2) (x 3))

/-- Batch `b` of the result. -/
def outBat (c : Dev nD) (b : Fin 2) : FVec F S1x512x768 .f32 :=
  if b.val = 0 then k0_pay1 (F := F) (k0_pay76 (wov m c) (ctxBat m c b)) else k0_pay2 (F := F) (k0_pay75 (wov m c)) (ctxBat m c b)
abbrev OI : Type := (cc0_stg2_0 : Ref sig .tc).ty.Idx
set_option backward.proofsInPublic true in
def outAll (c : Dev nD) : (cc0_stg2_0 : Ref sig .tc).ty.Contents (Elt F) := fun i =>
  have j : S2x512x768.Idx := i
  outBat m c (j 0) (ix3 0 (j 1) (j 2))

abbrev outM : Memref sig .tc .vmem S2x512x768 .f32 := Memref.whole cc0_stg2_0
abbrev outV (off : Fin 3 → ℕ) (inb : ∀ a, off a + S1x512x768.size a ≤ S2x512x768.size a) :=
  (outM : Memref sig .tc .vmem S2x512x768 .f32).access (Rect.unit (s := S2x512x768) off S1x512x768.size inb)

theorem out_emb {off : Fin 3 → ℕ} {inb} {b : ℕ} (hb : b < 2) (h : off = ![b, 0, 0]) (r : Fin 512) (d : Fin 768) :
    (Rect.unit (s := S2x512x768) off S1x512x768.size inb).emb (ix3 0 r d : S1x512x768.Idx) = (ix3 ⟨b, hb⟩ r d : S2x512x768.Idx) := by
  subst h
  funext a
  refine Fin.ext ((ValueKit.rect_emb_unit_val _ _ _ _ a).trans ?_)
  fin_cases a
  · rfl
  · exact Nat.zero_add _
  · exact Nat.zero_add _

theorem mem_out {off : Fin 3 → ℕ} {inb} {b : ℕ} (h : off = ![b, 0, 0]) (i : S2x512x768.Idx) :
    i ∈ (Rect.unit (s := S2x512x768) off S1x512x768.size inb).set ↔ (i 0).val = b := by
  subst h
  refine Rect.mem_set_unit.trans ?_
  constructor
  · intro hh
    have h0 := hh 0
    change b ≤ (i 0).val ∧ (i 0).val < b + 1 at h0
    omega
  · intro h0 a
    fin_cases a
    · change b ≤ (i 0).val ∧ (i 0).val < b + 1; omega
    · exact ⟨Nat.zero_le _, (i 1).isLt.trans_eq (Nat.zero_add _).symm⟩
    · exact ⟨Nat.zero_le _, (i 2).isLt.trans_eq (Nat.zero_add _).symm⟩

def Done (c : Dev nD) (n : ℕ) (f : (cc0_stg2_0 : Ref sig .tc).ty.Contents (Elt F)) : Prop :=
  ∀ i : OI, ((i : S2x512x768.Idx) 0).val < n → f i = outAll m c i

theorem done_zero (c : Dev nD) (f) : Done m c 0 f := fun i h => absurd h (Nat.not_lt_zero _)
theorem done_all (c : Dev nD) {f} (h : Done m c 2 f) : f = outAll m c := funext fun i => h i ((i : S2x512x768.Idx) 0).isLt
theorem done_step (c : Dev nD) {off : Fin 3 → ℕ} {inb} (n : Fin 2) (hoff : off = ![n.val, 0, 0]) {f} (h : Done m c n.val f) {w} (hw : w = outBat m c n) :
    Done m c (n.val + 1) ((outV off inb).write (Elt F) f w Finset.univ) := by
  refine grow (outV off inb) h ?_ fun i hi => ?_
  · subst hw
    funext x
    idx_vars x
    obtain rfl : (0 : Fin 1) = x0 := Subsingleton.elim _ _
    exact (congrArg (outAll m c) (out_emb n.isLt hoff x1 x2)).symm
  · by_cases hr : ((i : S2x512x768.Idx) 0).val < n.val
    · exact Or.inl hr
    · exact Or.inr ((ValueKit.mem_set_slice_whole_iff cc0_stg2_0 _ i (mem_out hoff i)).mpr (by omega))

/-! ## What the loads read -/

theorem read_qblk (c : Dev nD) {off : Fin 4 → ℕ} {inb} (b : Fin 2) (h : Fin 8) (t : Fin 8) (hoff : off = ![b.val, h.val, 64 * t.val, 0]) :
    (qM : Memref sig .tc .vmem S2x8x512x64 .bf16).view.readAt (Elt F) (Rect.unit (s := S2x8x512x64) off S1x1x64x64.size inb).toLoadRect (qAll m c) = qBlk m c b h t := by
  funext x
  idx_vars x
  obtain rfl : (0 : Fin 1) = x0 := Subsingleton.elim _ _
  obtain rfl : (0 : Fin 1) = x1 := Subsingleton.elim _ _
  exact congrArg (qAll m c) (blk_emb b.isLt h.isLt (by omega) hoff x2 x3)

theorem read_cblk {off : Fin 5 → ℕ} {inb} (s : Fin 8) (b : Fin 2) (h : Fin 8) (o : Fin 8) (hoff : off = ![s.val, b.val, h.val, 128 * o.val, 0]) :
    (commM : Memref sig .tc .vmem S8x2x8x1024x64 .bf16).view.readAt (Elt F) (Rect.unit (s := S8x2x8x1024x64) off S1x1x1x128x64.size inb).toLoadRect (allC m) = cBlk m s b h o := by
  subst hoff
  funext x
  idx_vars x
  obtain rfl : (0 : Fin 1) = x0 := Subsingleton.elim _ _
  obtain rfl : (0 : Fin 1) = x1 := Subsingleton.elim _ _
  obtain rfl : (0 : Fin 1) = x2 := Subsingleton.elim _ _
  refine congrArg (allC m) (funext fun a => Fin.ext ((ValueKit.rect_emb_unit_val _ _ _ _ a).trans ?_))
  fin_cases a
  · rfl
  · rfl
  · rfl
  · rfl
  · exact Nat.zero_add _

theorem read_ctxbat (c : Dev nD) {off : Fin 4 → ℕ} {inb} (b : Fin 2) (hoff : off = ![b.val, 0, 0, 0]) :
    (ctxM : Memref sig .tc .vmem S2x8x512x64 .bf16).view.readAt (Elt F) (Rect.unit (s := S2x8x512x64) off S1x8x512x64.size inb).toLoadRect (ctxAll m c) = ctxBat m c b := by
  funext x
  idx_vars x
  obtain rfl : (0 : Fin 1) = x0 := Subsingleton.elim _ _
  exact congrArg (ctxAll m c) (bat_emb b.isLt hoff x1 x2 x3)

end Cert.Ring

end
-- ==== Proof.Trip.lean ====
/- One trip of the kernel's loop, a batch and a head: where its loads and stores lie, and that it turns the contexts' buffer
   from filled before the trip to filled after it, at the final content of the queries and of the ring's buffer. -/
module

public import proofs.«01_k».proof.Proof.Fill

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The offsets of a trip -/

theorem off18_eq : ∀ k, k0_off18 k = ![k.val / 8, k.val % 8, 0, 0] := by decide +kernel
theorem off19_eq : ∀ k, k0_off19 k = ![k.val / 8, k.val % 8, 256, 0] := by decide +kernel
theorem off20_eq : ∀ k, k0_off20 k = ![0, k.val / 8, k.val % 8, 0, 0] := by decide +kernel
theorem off21_eq : ∀ k, k0_off21 k = ![1, k.val / 8, k.val % 8, 0, 0] := by decide +kernel
theorem off22_eq : ∀ k, k0_off22 k = ![2, k.val / 8, k.val % 8, 0, 0] := by decide +kernel
theorem off23_eq : ∀ k, k0_off23 k = ![3, k.val / 8, k.val % 8, 0, 0] := by decide +kernel
theorem off24_eq : ∀ k, k0_off24 k = ![4, k.val / 8, k.val % 8, 0, 0] := by decide +kernel
theorem off25_eq : ∀ k, k0_off25 k = ![5, k.val / 8, k.val % 8, 0, 0] := by decide +kernel
theorem off26_eq : ∀ k, k0_off26 k = ![6, k.val / 8, k.val % 8, 0, 0] := by decide +kernel
theorem off27_eq : ∀ k, k0_off27 k = ![7, k.val / 8, k.val % 8, 0, 0] := by decide +kernel
theorem off28_eq : ∀ k, k0_off28 k = ![0, k.val / 8, k.val % 8, 512, 0] := by decide +kernel
theorem off29_eq : ∀ k, k0_off29 k = ![1, k.val / 8, k.val % 8, 512, 0] := by decide +kernel
theorem off30_eq : ∀ k, k0_off30 k = ![2, k.val / 8, k.val % 8, 512, 0] := by decide +kernel
theorem off31_eq : ∀ k, k0_off31 k = ![3, k.val / 8, k.val % 8, 512, 0] := by decide +kernel
theorem off32_eq : ∀ k, k0_off32 k = ![4, k.val / 8, k.val % 8, 512, 0] := by decide +kernel
theorem off33_eq : ∀ k, k0_off33 k = ![5, k.val / 8, k.val % 8, 512, 0] := by decide +kernel
theorem off34_eq : ∀ k, k0_off34 k = ![6, k.val / 8, k.val % 8, 512, 0] := by decide +kernel
theorem off35_eq : ∀ k, k0_off35 k = ![7, k.val / 8, k.val % 8, 512, 0] := by decide +kernel
theorem off36_eq : ∀ k, k0_off36 k = ![k.val / 8, k.val % 8, 64, 0] := by decide +kernel
theorem off37_eq : ∀ k, k0_off37 k = ![k.val / 8, k.val % 8, 320, 0] := by decide +kernel
theorem off38_eq : ∀ k, k0_off38 k = ![0, k.val / 8, k.val % 8, 128, 0] := by decide +kernel
theorem off39_eq : ∀ k, k0_off39 k = ![1, k.val / 8, k.val % 8, 128, 0] := by decide +kernel
theorem off40_eq : ∀ k, k0_off40 k = ![2, k.val / 8, k.val % 8, 128, 0] := by decide +kernel
theorem off41_eq : ∀ k, k0_off41 k = ![3, k.val / 8, k.val % 8, 128, 0] := by decide +kernel
theorem off42_eq : ∀ k, k0_off42 k = ![4, k.val / 8, k.val % 8, 128, 0] := by decide +kernel
theorem off43_eq : ∀ k, k0_off43 k = ![5, k.val / 8, k.val % 8, 128, 0] := by decide +kernel
theorem off44_eq : ∀ k, k0_off44 k = ![6, k.val / 8, k.val % 8, 128, 0] := by decide +kernel
theorem off45_eq : ∀ k, k0_off45 k = ![7, k.val / 8, k.val % 8, 128, 0] := by decide +kernel
theorem off46_eq : ∀ k, k0_off46 k = ![0, k.val / 8, k.val % 8, 640, 0] := by decide +kernel
theorem off47_eq : ∀ k, k0_off47 k = ![1, k.val / 8, k.val % 8, 640, 0] := by decide +kernel
theorem off48_eq : ∀ k, k0_off48 k = ![2, k.val / 8, k.val % 8, 640, 0] := by decide +kernel
theorem off49_eq : ∀ k, k0_off49 k = ![3, k.val / 8, k.val % 8, 640, 0] := by decide +kernel
theorem off50_eq : ∀ k, k0_off50 k = ![4, k.val / 8, k.val % 8, 640, 0] := by decide +kernel
theorem off51_eq : ∀ k, k0_off51 k = ![5, k.val / 8, k.val % 8, 640, 0] := by decide +kernel
theorem off52_eq : ∀ k, k0_off52 k = ![6, k.val / 8, k.val % 8, 640, 0] := by decide +kernel
theorem off53_eq : ∀ k, k0_off53 k = ![7, k.val / 8, k.val % 8, 640, 0] := by decide +kernel
theorem off54_eq : ∀ k, k0_off54 k = ![k.val / 8, k.val % 8, 128, 0] := by decide +kernel
theorem off55_eq : ∀ k, k0_off55 k = ![k.val / 8, k.val % 8, 384, 0] := by decide +kernel
theorem off56_eq : ∀ k, k0_off56 k = ![0, k.val / 8, k.val % 8, 256, 0] := by decide +kernel
theorem off57_eq : ∀ k, k0_off57 k = ![1, k.val / 8, k.val % 8, 256, 0] := by decide +kernel
theorem off58_eq : ∀ k, k0_off58 k = ![2, k.val / 8, k.val % 8, 256, 0] := by decide +kernel
theorem off59_eq : ∀ k, k0_off59 k = ![3, k.val / 8, k.val % 8, 256, 0] := by decide +kernel
theorem off60_eq : ∀ k, k0_off60 k = ![4, k.val / 8, k.val % 8, 256, 0] := by decide +kernel
theorem off61_eq : ∀ k, k0_off61 k = ![5, k.val / 8, k.val % 8, 256, 0] := by decide +kernel
theorem off62_eq : ∀ k, k0_off62 k = ![6, k.val / 8, k.val % 8, 256, 0] := by decide +kernel
theorem off63_eq : ∀ k, k0_off63 k = ![7, k.val / 8, k.val % 8, 256, 0] := by decide +kernel
theorem off64_eq : ∀ k, k0_off64 k = ![0, k.val / 8, k.val % 8, 768, 0] := by decide +kernel
theorem off65_eq : ∀ k, k0_off65 k = ![1, k.val / 8, k.val % 8, 768, 0] := by decide +kernel
theorem off66_eq : ∀ k, k0_off66 k = ![2, k.val / 8, k.val % 8, 768, 0] := by decide +kernel
theorem off67_eq : ∀ k, k0_off67 k = ![3, k.val / 8, k.val % 8, 768, 0] := by decide +kernel
theorem off68_eq : ∀ k, k0_off68 k = ![4, k.val / 8, k.val % 8, 768, 0] := by decide +kernel
theorem off69_eq : ∀ k, k0_off69 k = ![5, k.val / 8, k.val % 8, 768, 0] := by decide +kernel
theorem off70_eq : ∀ k, k0_off70 k = ![6, k.val / 8, k.val % 8, 768, 0] := by decide +kernel
theorem off71_eq : ∀ k, k0_off71 k = ![7, k.val / 8, k.val % 8, 768, 0] := by decide +kernel
theorem off72_eq : ∀ k, k0_off72 k = ![k.val / 8, k.val % 8, 192, 0] := by decide +kernel
theorem off73_eq : ∀ k, k0_off73 k = ![k.val / 8, k.val % 8, 448, 0] := by decide +kernel
theorem off74_eq : ∀ k, k0_off74 k = ![0, k.val / 8, k.val % 8, 384, 0] := by decide +kernel
theorem off75_eq : ∀ k, k0_off75 k = ![1, k.val / 8, k.val % 8, 384, 0] := by decide +kernel
theorem off76_eq : ∀ k, k0_off76 k = ![2, k.val / 8, k.val % 8, 384, 0] := by decide +kernel
theorem off77_eq : ∀ k, k0_off77 k = ![3, k.val / 8, k.val % 8, 384, 0] := by decide +kernel
theorem off78_eq : ∀ k, k0_off78 k = ![4, k.val / 8, k.val % 8, 384, 0] := by decide +kernel
theorem off79_eq : ∀ k, k0_off79 k = ![5, k.val / 8, k.val % 8, 384, 0] := by decide +kernel
theorem off80_eq : ∀ k, k0_off80 k = ![6, k.val / 8, k.val % 8, 384, 0] := by decide +kernel
theorem off81_eq : ∀ k, k0_off81 k = ![7, k.val / 8, k.val % 8, 384, 0] := by decide +kernel
theorem off82_eq : ∀ k, k0_off82 k = ![0, k.val / 8, k.val % 8, 896, 0] := by decide +kernel
theorem off83_eq : ∀ k, k0_off83 k = ![1, k.val / 8, k.val % 8, 896, 0] := by decide +kernel
theorem off84_eq : ∀ k, k0_off84 k = ![2, k.val / 8, k.val % 8, 896, 0] := by decide +kernel
theorem off85_eq : ∀ k, k0_off85 k = ![3, k.val / 8, k.val % 8, 896, 0] := by decide +kernel
theorem off86_eq : ∀ k, k0_off86 k = ![4, k.val / 8, k.val % 8, 896, 0] := by decide +kernel
theorem off87_eq : ∀ k, k0_off87 k = ![5, k.val / 8, k.val % 8, 896, 0] := by decide +kernel
theorem off88_eq : ∀ k, k0_off88 k = ![6, k.val / 8, k.val % 8, 896, 0] := by decide +kernel
theorem off89_eq : ∀ k, k0_off89 k = ![7, k.val / 8, k.val % 8, 896, 0] := by decide +kernel

local notation "𝕄" => MT nD τ sig Unit (Elt F) ℕ UU ℕ

abbrev 𝒱₀ : Variants := Variants.none
abbrev qL (c : Dev nD) : Loc nD τ sig := (c : Thread nD τ).loc cc0_scratch1
abbrev ctxL (c : Dev nD) : Loc nD τ sig := (c : Thread nD τ).loc cc0_scratch2

/-! ## The loads -/

section Loads
variable (c : Dev nD) {α : Type} {Q : α → sProp (MT nD τ sig Unit (Elt F) ℕ UU ℕ)}

theorem load_c {off : Fin 5 → ℕ} {inb : ∀ a, off a + S1x1x1x128x64.size a ≤ S8x2x8x1024x64.size a} (s : Fin 8) (b : Fin 2) (h : Fin 8) (o : Fin 8) (hoff : off = ![s.val, b.val, h.val, 128 * o.val, 0])
    {hl : (commM : Memref sig .tc .vmem S8x2x8x1024x64 .bf16).view.LoadsAt (Rect.unit (s := S8x2x8x1024x64) off S1x1x1x128x64.size inb).toLoadRect}
    {k : Vec F S1x1x1x128x64 .bf16 → Prog (TpuEff nD τ sig (Elt F) Λ₀ .tc) α} :
    (commL c ↦{fullShare} allC m)
      ⊢ iprop(((commL c ↦{fullShare} allC m) -∗ wp frame (wpE (defs₀ (F := F)) 𝒱₀ (c : Thread nD τ) none) Set.univ (k (cBlk m s b h o)) Q)
          -∗ wp frame (wpE (defs₀ (F := F)) 𝒱₀ (c : Thread nD τ) none) Set.univ (.op (.load commM (Rect.unit (s := S8x2x8x1024x64) off S1x1x1x128x64.size inb).toLoadRect hl) k) Q) := by
  rw [← read_cblk m s b h o hoff (inb := inb)]
  exact wp_load 𝒱₀ (c : Thread nD τ) none Set.univ (m := commM) (Finset.subset_univ _)

theorem load_q {off : Fin 4 → ℕ} {inb : ∀ a, off a + S1x1x64x64.size a ≤ S2x8x512x64.size a} (b : Fin 2) (h : Fin 8) (t : Fin 8) (hoff : off = ![b.val, h.val, 64 * t.val, 0])
    {hl : (qM : Memref sig .tc .vmem S2x8x512x64 .bf16).view.LoadsAt (Rect.unit (s := S2x8x512x64) off S1x1x64x64.size inb).toLoadRect}
    {k : Vec F S1x1x64x64 .bf16 → Prog (TpuEff nD τ sig (Elt F) Λ₀ .tc) α} :
    (qL c ↦{fullShare} qAll m c)
      ⊢ iprop(((qL c ↦{fullShare} qAll m c) -∗ wp frame (wpE (defs₀ (F := F)) 𝒱₀ (c : Thread nD τ) none) Set.univ (k (qBlk m c b h t)) Q)
          -∗ wp frame (wpE (defs₀ (F := F)) 𝒱₀ (c : Thread nD τ) none) Set.univ (.op (.load qM (Rect.unit (s := S2x8x512x64) off S1x1x64x64.size inb).toLoadRect hl) k) Q) := by
  rw [← read_qblk m c b h t hoff (inb := inb)]
  exact wp_load 𝒱₀ (c : Thread nD τ) none Set.univ (m := qM) (Finset.subset_univ _)

theorem put_x {off : Fin 4 → ℕ} {inb : ∀ a, off a + S1x1x64x64.size a ≤ S2x8x512x64.size a} {g : Buf (Elt F) (ctxL c)} {w : Vec F S1x1x64x64 .bf16}
    {hl : (ctxM : Memref sig .tc .vmem S2x8x512x64 .bf16).view.LoadsAt (Rect.unit (s := S2x8x512x64) off S1x1x64x64.size inb).toLoadRect} {hx} {hm}
    {k : PUnit → Prog (TpuEff nD τ sig (Elt F) Λ₀ .tc) α} :
    (ctxL c ↦{fullShare} g)
      ⊢ iprop(((ctxL c ↦{fullShare} (cblkV off inb).write (Elt F) g w Finset.univ) -∗ wp frame (wpE (defs₀ (F := F)) 𝒱₀ (c : Thread nD τ) none) Set.univ (k ⟨⟩) Q)
          -∗ wp frame (wpE (defs₀ (F := F)) 𝒱₀ (c : Thread nD τ) none) Set.univ
            (.op (.load ctxM (Rect.unit (s := S2x8x512x64) off S1x1x64x64.size inb).toLoadRect hl)
              (fun _ => .op (.store ctxM (Rect.unit (s := S2x8x512x64) off S1x1x64x64.size inb) w Finset.univ hx hm) k)) Q) := by
  iintro HX Hk
  iapply (wp_load 𝒱₀ (c : Thread nD τ) none Set.univ (m := ctxM) (Finset.subset_univ _)) $$ HX; iintro HX
  iapply (wp_store 𝒱₀ (c : Thread nD τ) none Set.univ (m := ctxM) (r := Rect.unit (s := S2x8x512x64) off S1x1x64x64.size inb) (Mk := Finset.univ)
    (Finset.subset_univ _)) $$ HX; iintro HX
  iapply Hk $$ HX

end Loads

/-! ## A trip -/

def tripInv (c : Dev nD) (k : ℕ) : sProp 𝕄 :=
  iprop((commL c ↦{fullShare} allC m) ∗ (qL c ↦{fullShare} qAll m c) ∗ ∃ g : Buf (Elt F) (ctxL c), ⌜Mixed m c k 0 g⌝ ∗ (ctxL c ↦{fullShare} g))

set_option backward.proofsInPublic true in
def tripB (k : Fin k0_t1_loop.trips) : Fin 2 := ⟨k.val / 8, by have : k.val < 16 := k.isLt; omega⟩
set_option backward.proofsInPublic true in
def tripH (k : Fin k0_t1_loop.trips) : Fin 8 := ⟨k.val % 8, Nat.mod_lt _ (by decide)⟩

theorem trip (c d0 : Dev nD) (v7 : BitVec 32) (k : Fin k0_t1_loop.trips) (u : Unit) :
    tripInv m c k.val ⊢ wp frame (wpE (defs₀ (F := F)) 𝒱₀ (c : Thread nD τ) none) Set.univ
      (k0_t1_body (Memref.whole main_arg0) (Memref.isWhole_whole _) (Memref.whole cc0_stg0_0) (Memref.isWhole_whole _) (Memref.whole main_arg2) (Memref.isWhole_whole _) (Memref.whole main_arg3) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 d0 v7 k u) (fun _ => tripInv m c (k.val + 1)) := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  simp only [Prog.lift, Prog.bind_op, Prog.bind_ret, Prog.pure_eq_ret]
  unfold tripInv
  iintro ⟨HC, HQ, %g0, %hg0, HX⟩
  -- class 0
  iapply (load_q m c (tripB k) (tripH k) 0 (off18_eq k)) $$ HQ; iintro HQ
  iapply (load_q m c (tripB k) (tripH k) 4 (off19_eq k)) $$ HQ; iintro HQ
  iapply (load_c m c 0 (tripB k) (tripH k) 0 (off20_eq k)) $$ HC; iintro HC
  iapply (load_c m c 1 (tripB k) (tripH k) 0 (off21_eq k)) $$ HC; iintro HC
  iapply (load_c m c 2 (tripB k) (tripH k) 0 (off22_eq k)) $$ HC; iintro HC
  iapply (load_c m c 3 (tripB k) (tripH k) 0 (off23_eq k)) $$ HC; iintro HC
  iapply (load_c m c 4 (tripB k) (tripH k) 0 (off24_eq k)) $$ HC; iintro HC
  iapply (load_c m c 5 (tripB k) (tripH k) 0 (off25_eq k)) $$ HC; iintro HC
  iapply (load_c m c 6 (tripB k) (tripH k) 0 (off26_eq k)) $$ HC; iintro HC
  iapply (load_c m c 7 (tripB k) (tripH k) 0 (off27_eq k)) $$ HC; iintro HC
  iapply (load_c m c 0 (tripB k) (tripH k) 4 (off28_eq k)) $$ HC; iintro HC
  iapply (load_c m c 1 (tripB k) (tripH k) 4 (off29_eq k)) $$ HC; iintro HC
  iapply (load_c m c 2 (tripB k) (tripH k) 4 (off30_eq k)) $$ HC; iintro HC
  iapply (load_c m c 3 (tripB k) (tripH k) 4 (off31_eq k)) $$ HC; iintro HC
  iapply (load_c m c 4 (tripB k) (tripH k) 4 (off32_eq k)) $$ HC; iintro HC
  iapply (load_c m c 5 (tripB k) (tripH k) 4 (off33_eq k)) $$ HC; iintro HC
  iapply (load_c m c 6 (tripB k) (tripH k) 4 (off34_eq k)) $$ HC; iintro HC
  iapply (load_c m c 7 (tripB k) (tripH k) 4 (off35_eq k)) $$ HC; iintro HC
  iapply (put_x c) $$ HX; iintro HX
  have hg1 := mixed_step m c (inb := k0_off18_inb k) (t := 0) (by intro r; omega) (off18_eq k) hg0 (top_ctx m c (tripB k) (tripH k) 0 (off18_eq k))
  iapply (put_x c) $$ HX; iintro HX
  have hg2 := mixed_step m c (inb := k0_off19_inb k) (t := 4) (by intro r; omega) (off19_eq k) hg1 (bot_ctx m c (tripB k) (tripH k) 0 (off19_eq k))
  -- class 1
  iapply (load_q m c (tripB k) (tripH k) 1 (off36_eq k)) $$ HQ; iintro HQ
  iapply (load_q m c (tripB k) (tripH k) 5 (off37_eq k)) $$ HQ; iintro HQ
  iapply (load_c m c 0 (tripB k) (tripH k) 1 (off38_eq k)) $$ HC; iintro HC
  iapply (load_c m c 1 (tripB k) (tripH k) 1 (off39_eq k)) $$ HC; iintro HC
  iapply (load_c m c 2 (tripB k) (tripH k) 1 (off40_eq k)) $$ HC; iintro HC
  iapply (load_c m c 3 (tripB k) (tripH k) 1 (off41_eq k)) $$ HC; iintro HC
  iapply (load_c m c 4 (tripB k) (tripH k) 1 (off42_eq k)) $$ HC; iintro HC
  iapply (load_c m c 5 (tripB k) (tripH k) 1 (off43_eq k)) $$ HC; iintro HC
  iapply (load_c m c 6 (tripB k) (tripH k) 1 (off44_eq k)) $$ HC; iintro HC
  iapply (load_c m c 7 (tripB k) (tripH k) 1 (off45_eq k)) $$ HC; iintro HC
  iapply (load_c m c 0 (tripB k) (tripH k) 5 (off46_eq k)) $$ HC; iintro HC
  iapply (load_c m c 1 (tripB k) (tripH k) 5 (off47_eq k)) $$ HC; iintro HC
  iapply (load_c m c 2 (tripB k) (tripH k) 5 (off48_eq k)) $$ HC; iintro HC
  iapply (load_c m c 3 (tripB k) (tripH k) 5 (off49_eq k)) $$ HC; iintro HC
  iapply (load_c m c 4 (tripB k) (tripH k) 5 (off50_eq k)) $$ HC; iintro HC
  iapply (load_c m c 5 (tripB k) (tripH k) 5 (off51_eq k)) $$ HC; iintro HC
  iapply (load_c m c 6 (tripB k) (tripH k) 5 (off52_eq k)) $$ HC; iintro HC
  iapply (load_c m c 7 (tripB k) (tripH k) 5 (off53_eq k)) $$ HC; iintro HC
  iapply (put_x c) $$ HX; iintro HX
  have hg3 := mixed_step m c (inb := k0_off36_inb k) (t := 1) (by intro r; omega) (off36_eq k) hg2 (top_ctx m c (tripB k) (tripH k) 1 (off36_eq k))
  iapply (put_x c) $$ HX; iintro HX
  have hg4 := mixed_step m c (inb := k0_off37_inb k) (t := 5) (by intro r; omega) (off37_eq k) hg3 (bot_ctx m c (tripB k) (tripH k) 1 (off37_eq k))
  -- class 2
  iapply (load_q m c (tripB k) (tripH k) 2 (off54_eq k)) $$ HQ; iintro HQ
  iapply (load_q m c (tripB k) (tripH k) 6 (off55_eq k)) $$ HQ; iintro HQ
  iapply (load_c m c 0 (tripB k) (tripH k) 2 (off56_eq k)) $$ HC; iintro HC
  iapply (load_c m c 1 (tripB k) (tripH k) 2 (off57_eq k)) $$ HC; iintro HC
  iapply (load_c m c 2 (tripB k) (tripH k) 2 (off58_eq k)) $$ HC; iintro HC
  iapply (load_c m c 3 (tripB k) (tripH k) 2 (off59_eq k)) $$ HC; iintro HC
  iapply (load_c m c 4 (tripB k) (tripH k) 2 (off60_eq k)) $$ HC; iintro HC
  iapply (load_c m c 5 (tripB k) (tripH k) 2 (off61_eq k)) $$ HC; iintro HC
  iapply (load_c m c 6 (tripB k) (tripH k) 2 (off62_eq k)) $$ HC; iintro HC
  iapply (load_c m c 7 (tripB k) (tripH k) 2 (off63_eq k)) $$ HC; iintro HC
  iapply (load_c m c 0 (tripB k) (tripH k) 6 (off64_eq k)) $$ HC; iintro HC
  iapply (load_c m c 1 (tripB k) (tripH k) 6 (off65_eq k)) $$ HC; iintro HC
  iapply (load_c m c 2 (tripB k) (tripH k) 6 (off66_eq k)) $$ HC; iintro HC
  iapply (load_c m c 3 (tripB k) (tripH k) 6 (off67_eq k)) $$ HC; iintro HC
  iapply (load_c m c 4 (tripB k) (tripH k) 6 (off68_eq k)) $$ HC; iintro HC
  iapply (load_c m c 5 (tripB k) (tripH k) 6 (off69_eq k)) $$ HC; iintro HC
  iapply (load_c m c 6 (tripB k) (tripH k) 6 (off70_eq k)) $$ HC; iintro HC
  iapply (load_c m c 7 (tripB k) (tripH k) 6 (off71_eq k)) $$ HC; iintro HC
  iapply (put_x c) $$ HX; iintro HX
  have hg5 := mixed_step m c (inb := k0_off54_inb k) (t := 2) (by intro r; omega) (off54_eq k) hg4 (top_ctx m c (tripB k) (tripH k) 2 (off54_eq k))
  iapply (put_x c) $$ HX; iintro HX
  have hg6 := mixed_step m c (inb := k0_off55_inb k) (t := 6) (by intro r; omega) (off55_eq k) hg5 (bot_ctx m c (tripB k) (tripH k) 2 (off55_eq k))
  -- class 3
  iapply (load_q m c (tripB k) (tripH k) 3 (off72_eq k)) $$ HQ; iintro HQ
  iapply (load_q m c (tripB k) (tripH k) 7 (off73_eq k)) $$ HQ; iintro HQ
  iapply (load_c m c 0 (tripB k) (tripH k) 3 (off74_eq k)) $$ HC; iintro HC
  iapply (load_c m c 1 (tripB k) (tripH k) 3 (off75_eq k)) $$ HC; iintro HC
  iapply (load_c m c 2 (tripB k) (tripH k) 3 (off76_eq k)) $$ HC; iintro HC
  iapply (load_c m c 3 (tripB k) (tripH k) 3 (off77_eq k)) $$ HC; iintro HC
  iapply (load_c m c 4 (tripB k) (tripH k) 3 (off78_eq k)) $$ HC; iintro HC
  iapply (load_c m c 5 (tripB k) (tripH k) 3 (off79_eq k)) $$ HC; iintro HC
  iapply (load_c m c 6 (tripB k) (tripH k) 3 (off80_eq k)) $$ HC; iintro HC
  iapply (load_c m c 7 (tripB k) (tripH k) 3 (off81_eq k)) $$ HC; iintro HC
  iapply (load_c m c 0 (tripB k) (tripH k) 7 (off82_eq k)) $$ HC; iintro HC
  iapply (load_c m c 1 (tripB k) (tripH k) 7 (off83_eq k)) $$ HC; iintro HC
  iapply (load_c m c 2 (tripB k) (tripH k) 7 (off84_eq k)) $$ HC; iintro HC
  iapply (load_c m c 3 (tripB k) (tripH k) 7 (off85_eq k)) $$ HC; iintro HC
  iapply (load_c m c 4 (tripB k) (tripH k) 7 (off86_eq k)) $$ HC; iintro HC
  iapply (load_c m c 5 (tripB k) (tripH k) 7 (off87_eq k)) $$ HC; iintro HC
  iapply (load_c m c 6 (tripB k) (tripH k) 7 (off88_eq k)) $$ HC; iintro HC
  iapply (load_c m c 7 (tripB k) (tripH k) 7 (off89_eq k)) $$ HC; iintro HC
  iapply (put_x c) $$ HX; iintro HX
  have hg7 := mixed_step m c (inb := k0_off72_inb k) (t := 3) (by intro r; omega) (off72_eq k) hg6 (top_ctx m c (tripB k) (tripH k) 3 (off72_eq k))
  iapply (put_x c) $$ HX; iintro HX
  have hg8 := mixed_step m c (inb := k0_off73_inb k) (t := 7) (by intro r; omega) (off73_eq k) hg7 (bot_ctx m c (tripB k) (tripH k) 3 (off73_eq k))
  rw [wp_ret]; imodintro
  isplitl [HC]; · iexact HC
  isplitl [HQ]; · iexact HQ
  iexists _
  isplitr; · ipureintro; exact mixed_next m c hg8
  iexact HX

end Cert.Ring

end
-- ==== Proof.Hop.lean ====
/- One hop of the ring: a slot's transfer to the right neighbour and the two waits after it, at any hop. -/
module

public import proofs.«01_k».proof.Proof.Trip

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

/-! ## A hop -/

/-- What device `c` may still write of its right neighbour's buffer before hop `r`. -/
def ahead (c : Dev nD) (r : ℕ) : sProp 𝕄 := iprop(∃ f : Buf (Elt F) (commL (rgt c)), commL (rgt c) ↦[togo c r]{fullShare} f)

section Hop
variable (K : Dev nD × Fin 17 → ℕ) (c : Dev nD)

theorem slot_pts {off : Fin 5 → ℕ} {inb : ∀ a, off a + S1x2x8x1024x64.size a ≤ S8x2x8x1024x64.size a} {s : ℕ} (h : off = ![s, 0, 0, 0, 0]) (d : Dev nD) (f : Buf (Elt F) (commL d)) :
    ((slotM off inb).view.loc (d : Thread nD τ) ↦[(slotM off inb).view.set]{fullShare} f : sProp 𝕄) = (commL d ↦[slot s]{fullShare} f) := by
  rw [slotM_set h]

/-- The transfer of one hop: slot `c - r` goes to the right neighbour, whose copy of the slot becomes what the source holds. -/
theorem hop_send (n : Dev nD) (hn : n = rgt c) (r : Fin 7) {off : Fin 5 → ℕ} {inb : ∀ a, off a + S1x2x8x1024x64.size a ≤ S8x2x8x1024x64.size a}
    (hoff : off = ![sends c r.val, 0, 0, 0, 0]) {sS sR : DmaSem sig} (hs : sS = dq (sndJ r)) (hr : sR = dq (rcvJ r))
    {hsc : (slotM off inb : Memref sig (Dev.tc n : Thread nD τ).2.kind .vmem S2x8x1024x64 .bf16).view.ref.isScScratch = false}
    {hsrc : (slotM off inb).view.WordExact} {hdst : (slotM off inb).view.WordExact}
    {hsem : DmaTarget.Typed .vmem (.dma sR) (.remote (Dev.tc n : Thread nD τ) (slotM off inb) (.dma sS) hsc)}
    {α : Type} {Q : α → sProp (MT nD τ sig Unit (Elt F) ℕ UU ℕ)} {k : PUnit → Prog (TpuEff nD τ sig (Elt F) Λ₀ .tc) α} (g : Buf (Elt F) (commL (rgt c))) (W : Waits sig Unit) :
    iprop(records m K ∗ (commL c ↦[slot (sends c r.val)]{fullShare} allC m) ∗ (commL (rgt c) ↦[slot (sends c r.val)]{fullShare} g)
        ∗ owes (c : Thread nD τ) (owed c r.val) W ∗ dutyTok ER (sndC c r) 0 false ∗ dutyTok ER (rcvC (rgt c) r) 0 false)
      ⊢ iprop(((cred (tallyAt (sndC c r) () NS) ∗ owes (c : Thread nD τ) (owed c (r.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off inb) (.remote (Dev.tc n : Thread nD τ) (slotM off inb) (.dma sS) hsc) (.dma sR) hsrc hdst hsem) k) Q) := by
  subst hn hs hr
  have hj : (sndJ r).val < 14 := by have := r.isLt; show r.val < 14; omega
  have hj' : (rcvJ r).val < 14 := by have := r.isLt; show r.val + 7 < 14; omega
  have hw := Rounds.wp_send_pointsTo (defs := defs₀ (F := F)) (Γ := .empty) 𝒱₀ ER (sched m) (c : Thread nD τ) none (c' := (rgt c : Thread nD τ)) (src := slotM off inb) (dst := slotM off inb) (hsc := hsc)
    (sS := .dma (dq (sndJ r))) (sem := .dma (dq (rcvJ r))) (hsrc := hsrc) (hdst := hdst) (hsem := hsem) (k := k) (Q := Q) (Es := Set.univ)
    (q := fullShare) (fs := allC m) (κ₁ := K (c, (sndJ r).succ)) (κ₂ := K (rgt c, (rcvJ r).succ))
    (r₁ := 0) (r₂ := 0) (d₁ := false) (d₂ := false) (fd := g)
    (by rw [duties_hop m c _ hj]; exact Finset.mem_singleton_self _) (by rw [duties_hop m _ _ hj']; exact Finset.mem_singleton_self _)
    () () NS rfl (amt_hop m c _ hj 0 false) (amt_hop m (rgt c) _ hj' 0 false) (owed c (r.val + 1)) (owed_step c r) (W := W)
    (by rw [slot_pts hoff, pay_snd]; exact BI.Entails.refl _)
    (by
      rw [slot_pts hoff, pay_rcv]; unfold rcvPay; rw [lft_rgt]
      refine Entails.of_eq (pointsTo_congr fun i hi => ?_)
      exact write_read_on (slotM off inb).view i (by rw [slotM_set hoff]; exact hi))
  rw [slot_pts hoff, slot_pts hoff] at hw
  iintro ⟨#HR, Hs, Hd, HO, HtS, HtR⟩ Hk
  iapply hw $$ [Hs Hd HO HtS HtR]
  · isplitr; · iapply (inv_dma m K c (sndJ r)); iexact HR
    isplitr; · iapply (inv_dma m K (rgt c) (rcvJ r)); iexact HR
    isplitl [Hs]; · iexact Hs
    isplitl [Hd]; · iexact Hd
    isplitl [HO]; · iexact HO
    isplitl [HtS]; · iexact HtS
    isplitr; · iapply (at_dma m K c (sndJ r)); iexact HR
    isplitl [HtR]; · iexact HtR
    iapply (at_dma m K (rgt c) (rcvJ r)); iexact HR
  iexact Hk

/-- A hop and its two waits: the slot is the device's again, and its left neighbour's has joined what it holds; both
    semaphores are read back and done. -/
theorem hop (n : Dev nD) (hn : n = rgt c) (r : Fin 7) {off : Fin 5 → ℕ} {inb : ∀ a, off a + S1x2x8x1024x64.size a ≤ S8x2x8x1024x64.size a}
    (hoff : off = ![sends c r.val, 0, 0, 0, 0]) {sS sR : DmaSem sig} (hs : sS = dq (sndJ r)) (hr : sR = dq (rcvJ r))
    {hsc : (slotM off inb : Memref sig (Dev.tc n : Thread nD τ).2.kind .vmem S2x8x1024x64 .bf16).view.ref.isScScratch = false}
    {hsrc : (slotM off inb).view.WordExact} {hdst : (slotM off inb).view.WordExact}
    {hsem : DmaTarget.Typed .vmem (.dma sR) (.remote (Dev.tc n : Thread nD τ) (slotM off inb) (.dma sS) hsc)}
    {h1 h2 h3 h4 : (slotM off inb).view.WordExact}
    {α : Type} {Q : α → sProp (MT nD τ sig Unit (Elt F) ℕ UU ℕ)} {k : PUnit → Prog (TpuEff nD τ sig (Elt F) Λ₀ .tc) α} :
    iprop(records m K ∗ levAts L lv ∗ (commL c ↦[held c r.val]{fullShare} allC m) ∗ ahead c r.val
        ∗ (∃ W, owes (c : Thread nD τ) (owed c r.val) W) ∗ dutyTok ER (sndC c r) 0 false ∗ dutyTok ER (rcvC (rgt c) r) 0 false
        ∗ atPos ER (sndC c r) 0 ∅ 0 ∗ atPos ER (rcvC c r) 0 ∅ 0 ∗ cred (tallyAt (rcvC c r) () NS))
      ⊢ iprop((((commL c ↦[held c (r.val + 1)]{fullShare} allC m) ∗ ahead c (r.val + 1)
              ∗ (∃ W, owes (c : Thread nD τ) (owed c (r.val + 1)) W) ∗ semVal (sndC c r) 0 ∗ semVal (rcvC c r) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off inb) (.remote (Dev.tc n : Thread nD τ) (slotM off inb) (.dma sS) hsc) (.dma sR) hsrc hdst hsem)
                fun _ => .op (.waitDma2 sS (slotM off inb) (slotM off inb) h1 h2) fun _ => .op (.waitDma2 sR (slotM off inb) (slotM off inb) h3 h4) k) Q) := by
  have hr7 : r.val < 7 := r.isLt
  have hj : (sndJ r).val < 14 := by show r.val < 14; omega
  have hj' : (rcvJ r).val < 14 := by show r.val + 7 < 14; omega
  unfold ahead
  iintro ⟨#HR, #HL, Hh, ⟨%g, Ha⟩, ⟨%W, HO⟩, HtS, HtR, HatS, HatR, HcR⟩ Hk
  ihave Hh := (pointsTo_split_subset (sends_sub_held c r.val hr7)).1 $$ Hh
  icases Hh with ⟨Hs, Hh⟩
  ihave Ha := (pointsTo_split_subset (sends_sub_togo c r.val hr7)).1 $$ Ha
  icases Ha with ⟨Hd, Ha⟩
  rw [togo_step c r.val hr7]
  iapply (hop_send m K c n hn r hoff hs hr g W) $$ [Hs Hd HO HtS HtR]
  · isplitr; · iexact HR
    isplitl [Hs]; · iexact Hs
    isplitl [Hd]; · iexact Hd
    isplitl [HO]; · iexact HO
    isplitl [HtS] <;> iassumption
  iintro ⟨HcS, HO⟩
  subst hs hr
  iapply (Rounds.wp_wait_rest_token 𝒱₀ ER (sched m) (c : Thread nD τ) none (κ := K (c, (sndJ r).succ))
      (wpE_waitDma2_eq 𝒱₀ (c : Thread nD τ) none Set.univ) (Set.mem_univ _) () (O := owed c (r.val + 1)) (W := W) (R := 0) (m := 0) (T := ∅)
      (by rw [Nat.zero_add, exp_one m (duties_hop m c _ hj) (amt_hop m c _ hj 0 false)])) $$ [HcS HO HatS]
  · isplitr; · iapply (inv_dma m K c (sndJ r)); iexact HR
    isplitl [HcS]; · iexact HcS
    isplitl [HO]; · iexact HO
    isplitr; · iapply (may_owed c _ (r.val + 1) 0 (lv_low c _ (Or.inl (by rw [dq_val]; show r.val + 3 < 10; omega)) ()).le (by omega)); iexact HL
    iexact HatS
  iintro ⟨HO, HatS, -, Hpay⟩
  ihave Hs := (Entails.of_eq ((rest_one m (duties_hop m c _ hj)).trans (pay_snd m c r 0 false))) $$ Hpay
  unfold sndPay
  iapply (Rounds.wp_wait_rest_token 𝒱₀ ER (sched m) (c : Thread nD τ) none (κ := K (c, (rcvJ r).succ))
      (wpE_waitDma2_eq 𝒱₀ (c : Thread nD τ) none Set.univ) (Set.mem_univ _) () (O := owed c (r.val + 1)) (W := insert (SemLoc.dma (dq (sndJ r)), ()) W) (R := 0) (m := 0) (T := ∅)
      (by rw [Nat.zero_add, exp_one m (duties_hop m c _ hj') (amt_hop m c _ hj' 0 false)])) $$ [HcR HO HatR]
  · isplitr; · iapply (inv_dma m K c (rcvJ r)); iexact HR
    isplitl [HcR]; · iexact HcR
    isplitl [HO]; · iexact HO
    isplitr; · iapply (may_owed c _ (r.val + 1) (r.val + 2) (lv_rcv c r ()).le (by omega)); iexact HL
    iexact HatR
  iintro ⟨HO, HatR, -, Hpay⟩
  ihave Hl := (Entails.of_eq ((rest_one m (duties_hop m c _ hj')).trans (pay_rcv m c r 0 false))) $$ Hpay
  unfold rcvPay
  imod (Rounds.cell_close ER (sched m) (Set.mem_univ (K (c, (sndJ r).succ))) (fun h => h) (R := 0 + 1) (done_hop m c _ hj)) $$ [HatS] with HzS
  · isplitr; · iapply (inv_dma m K c (sndJ r)); iexact HR
    iexact HatS
  imod (Rounds.cell_close ER (sched m) (Set.mem_univ (K (c, (rcvJ r).succ))) (fun h => h) (R := 0 + 1) (done_hop m c _ hj')) $$ [HatR] with HzR
  · isplitr; · iapply (inv_dma m K c (rcvJ r)); iexact HR
    iexact HatR
  ihave Hh := (pointsTo_split_subset (ℓ := commL c) (q := fullShare) (f := allC m) (sends_sub_held c r.val hr7)).2 $$ [Hs Hh]
  · isplitl [Hs] <;> iassumption
  ihave Hh := (pointsTo_union (ℓ := commL c) (q := fullShare) (f := allC m) (held_disj c r.val hr7)).2 $$ [Hl Hh]
  · isplitl [Hh] <;> iassumption
  rw [held_step c r.val hr7]
  iapply Hk
  isplitl [Hh]; · iexact Hh
  isplitl [Ha]; · iexists g; iexact Ha
  isplitl [HO]; · iexists _; iexact HO
  isplitl [HzS] <;> iassumption

end Hop

end Cert.Ring

end
-- ==== Proof.Steps.lean ====
/- The device's own steps: its copies into the stages with their waits, and a store into its own slot of the ring's buffer. -/
module

public import proofs.«01_k».proof.Proof.Hop

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

local notation "𝕄" => MT nD τ sig Unit (Elt F) ℕ UU ℕ

/-! ## A copy on the device, and the wait for it -/

section Local
variable (K : Dev nD × Fin 17 → ℕ) (c : Dev nD)

/-- A copy on the device that pays round `R` of one of its two own cells, and the wait for it, while the receive credits of
    every hop are owed: what the payment hands over is the device's, and the cell stands at the next round. -/
theorem local_copy (j : Fin 16) (hj : 14 ≤ j.val) (R : ℕ) (hR : R < 2) (N : ℕ) (ha : (sched (F := F) m).amount (dmaC c j) R false = N)
    {sp sp' : Space} {s : Shape} {e : EltTy} {src : Memref sig .tc sp s e} {dst : Memref sig .tc sp' s e} {sm : DmaSem sig} (hs : sm = dq j)
    {hsrc h1 : src.view.WordExact} {hdst h2 : dst.view.WordExact} {hsem : (DmaTarget.here dst : DmaTarget nD τ sig .tc sp' s e).Typed sp (.dma sm)}
    (hN : dst.view.dmaCredit = N) {fs : Buf (Elt F) (src.view.loc (c : Thread nD τ))} {fd : Buf (Elt F) (dst.view.loc (c : Thread nD τ))} {P : sProp (MT nD τ sig Unit (Elt F) ℕ UU ℕ)}
    (hP : (sched m).payload (dmaC c j) R false = P)
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ P)
    {α : Type} {Q : α → sProp (MT nD τ sig Unit (Elt F) ℕ UU ℕ)} {k : PUnit → Prog (TpuEff nD τ sig (Elt F) Λ₀ .tc) α} :
    iprop(records m K ∗ levAts L lv ∗ (src.view.loc (c : Thread nD τ) ↦[src.view.set]{fullShare} fs) ∗ (dst.view.loc (c : Thread nD τ) ↦[dst.view.set]{fullShare} fd)
        ∗ (∃ W, owes (c : Thread nD τ) (owed c 0) W) ∗ dutyTok ER (dmaC c j) R false ∗ reached ER (dmaC c j) R ∗ atPos ER (dmaC c j) R ∅ 0)
      ⊢ iprop((((∃ W, owes (c : Thread nD τ) (owed c 0) W) ∗ atPos ER (dmaC c j) (R + 1) ∅ 0 ∗ reached ER (dmaC c j) (R + 1) ∗ P)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma sm) hsrc hdst hsem) fun _ => .op (.waitDma2 sm src dst h1 h2) k) Q) := by
  subst hs
  iintro ⟨#HR, #HL, Hs, Hd, ⟨%W, HO⟩, Ht, #Hr, Hat⟩ Hk
  iapply (Rounds.wp_copy_pointsTo 𝒱₀ ER (sched m) (c : Thread nD τ) none (sem := .dma (dq j)) (κ := K (c, j.succ)) (r := R) (d := false) (fs := fs) (fd := fd)
      (by rw [duties_two m c j hj R hR]; exact Finset.mem_singleton_self _) () N hN ha (by rw [hP]; exact hpay)) $$ [Hs Hd Ht]
  · isplitr; · iapply (inv_dma m K c j); iexact HR
    isplitl [Hs]; · iexact Hs
    isplitl [Hd]; · iexact Hd
    isplitl [Ht]; · iexact Ht
    iexact Hr
  iintro Hc
  subst hN
  iapply (Rounds.wp_wait_rest_token 𝒱₀ ER (sched m) (c : Thread nD τ) none (κ := K (c, j.succ))
      (wpE_waitDma2_eq 𝒱₀ (c : Thread nD τ) none Set.univ) (Set.mem_univ _) () (O := owed c 0) (W := W) (R := R) (m := 0) (T := ∅)
      (by rw [Nat.zero_add, exp_one m (duties_two m c j hj R hR) ha])) $$ [Hc HO Hat]
  · isplitr; · iapply (inv_dma m K c j); iexact HR
    isplitl [Hc]; · iexact Hc
    isplitl [HO]; · iexact HO
    isplitr; · iapply (may_owed c _ 0 0 (lv_low c _ (Or.inr (by rw [dq_val]; omega)) ()).le (by omega)); iexact HL
    iexact Hat
  iintro ⟨HO, Hat, Hr', Hpay⟩
  ihave Hp := (Entails.of_eq ((rest_one m (duties_two m c j hj R hR)).trans hP)) $$ Hpay
  iapply Hk
  isplitl [HO]; · iexists _; iexact HO
  isplitl [Hat]; · iexact Hat
  isplitl [Hr'] <;> iassumption

/-- What the key/value copies and the activations' copies hand over. -/
theorem pay_keys (fd : Buf (Elt F) (kvL c)) :
    (iprop((kvM.view.loc (c : Thread nD τ) ↦[kvM.view.set]{fullShare} (kvM.view.write (Elt F) fd (kH.view.read (Elt F) (m (a2L c))) Finset.univ))
      ∗ (kH.view.loc (c : Thread nD τ) ↦[kH.view.set]{fullShare} m (a2L c))) : sProp (MT nD τ sig Unit (Elt F) ℕ UU ℕ))
      ⊢ iprop((kvL c ↦{fullShare} (m (a2L c) : (cc0_scratch3 : Ref sig .tc).ty.Contents (Elt F))) ∗ (a2L c ↦{fullShare} m (a2L c))) := by
  rw [show kvM.view.set = Finset.univ from View.set_whole _, show kH.view.set = Finset.univ from View.set_whole _,
    show kvM.view.write (Elt F) fd (kH.view.read (Elt F) (m (a2L c))) Finset.univ = m (a2L c) from View.write_whole_univ _ _ _]
theorem pay_vals (fd : Buf (Elt F) (kvL c)) :
    (iprop((kvM.view.loc (c : Thread nD τ) ↦[kvM.view.set]{fullShare} (kvM.view.write (Elt F) fd (vH.view.read (Elt F) (m (a3L c))) Finset.univ))
      ∗ (vH.view.loc (c : Thread nD τ) ↦[vH.view.set]{fullShare} m (a3L c))) : sProp (MT nD τ sig Unit (Elt F) ℕ UU ℕ))
      ⊢ iprop((kvL c ↦{fullShare} (m (a3L c) : (cc0_scratch3 : Ref sig .tc).ty.Contents (Elt F))) ∗ (a3L c ↦{fullShare} m (a3L c))) := by
  rw [show kvM.view.set = Finset.univ from View.set_whole _, show vH.view.set = Finset.univ from View.set_whole _,
    show kvM.view.write (Elt F) fd (vH.view.read (Elt F) (m (a3L c))) Finset.univ = m (a3L c) from View.write_whole_univ _ _ _]
theorem pay_row {off : Fin 3 → ℕ} {inb : ∀ a, off a + S1x512x768.size a ≤ S2x512x768.size a} (fd : Buf (Elt F) (xL c)) :
    (iprop((xM.view.loc (c : Thread nD τ) ↦[xM.view.set]{fullShare} (xM.view.write (Elt F) fd ((rowM off inb).view.read (Elt F) (m (a0L c))) Finset.univ))
      ∗ ((rowM off inb).view.loc (c : Thread nD τ) ↦[(rowM off inb).view.set]{fullShare} m (a0L c))) : sProp (MT nD τ sig Unit (Elt F) ℕ UU ℕ))
      ⊢ iprop((xL c ↦{fullShare} ((rowM off inb).view.read (Elt F) (m (a0L c)) : (cc0_scratch4 : Ref sig .tc).ty.Contents (Elt F)))
        ∗ (a0L c ↦[(rowM off inb).view.set]{fullShare} m (a0L c))) := by
  rw [show xM.view.set = Finset.univ from View.set_whole _,
    show xM.view.write (Elt F) fd ((rowM off inb).view.read (Elt F) (m (a0L c))) Finset.univ = (rowM off inb).view.read (Elt F) (m (a0L c)) from View.write_whole_univ _ _ _]
theorem pay_keys_eq : (sched m).payload (dmaC c 14) 0 false
    = iprop((kvL c ↦{fullShare} (m (a2L c) : (cc0_scratch3 : Ref sig .tc).ty.Contents (Elt F))) ∗ (a2L c ↦{fullShare} m (a2L c))) := by
  rw [pay_cpy]; unfold cpyPay; rw [if_pos rfl]
theorem pay_vals_eq : (sched m).payload (dmaC c 14) 1 false
    = iprop((kvL c ↦{fullShare} (m (a3L c) : (cc0_scratch3 : Ref sig .tc).ty.Contents (Elt F))) ∗ (a3L c ↦{fullShare} m (a3L c))) := by
  rw [pay_cpy]; unfold cpyPay; rw [if_neg (by decide)]
theorem pay_row0_eq : (sched m).payload (dmaC c 15) 0 false
    = iprop((xL c ↦{fullShare} row0 m c) ∗ (a0L c ↦[rowM0.view.set]{fullShare} m (a0L c))) := by
  rw [pay_act]; unfold actPay; rw [if_pos rfl]
theorem pay_row1_eq : (sched m).payload (dmaC c 15) 1 false
    = iprop((xL c ↦{fullShare} row1 m c) ∗ (a0L c ↦[rowM1.view.set]{fullShare} m (a0L c))) := by
  rw [pay_act]; unfold actPay; rw [if_neg (by decide)]

/-! ## The two batches of the activations -/

theorem mem_rowM {off : Fin 3 → ℕ} {inb : ∀ a, off a + S1x512x768.size a ≤ S2x512x768.size a} {b : ℕ} (h : off = ![b, 0, 0])
    (i : (main_arg0 : Ref sig .tc).ty.Idx) : i ∈ (rowM off inb).view.set ↔ ((i : S2x512x768.Idx) 0).val = b := by
  have h1 : (rowM off inb).view.set = ((View.whole main_arg0).slice (Rect.unit (s := S2x512x768) off S1x512x768.size inb)).set := View.set_reshape _ _
  rw [h1]
  exact ValueKit.mem_set_slice_whole_iff main_arg0 _ i (mem_out h i)
theorem row_rest : (Finset.univ : Finset (main_arg0 : Ref sig .tc).ty.Idx) \ rowM0.view.set = rowM1.view.set := by
  ext i
  have := ((i : S2x512x768.Idx) 0).isLt
  change ((i : S2x512x768.Idx) 0).val < 2 at this
  rw [Finset.mem_sdiff, mem_rowM rfl, mem_rowM rfl]
  exact ⟨fun h => by omega, fun h => ⟨Finset.mem_univ _, by omega⟩⟩

/-! ## A store into the device's own slot -/

theorem put_p {off : Fin 5 → ℕ} {inb : ∀ a, off a + S1x2x8x64x64.size a ≤ S8x2x8x1024x64.size a} {p : ℕ} (hoff : off = ![c.val, 0, 0, p, 0])
    {g : Buf (Elt F) (commL c)} {w : Vec F S1x2x8x64x64 .bf16}
    {hl : (commM : Memref sig .tc .vmem S8x2x8x1024x64 .bf16).view.LoadsAt (Rect.unit (s := S8x2x8x1024x64) off S1x2x8x64x64.size inb).toLoadRect} {hx} {hm}
    {α : Type} {Q : α → sProp (MT nD τ sig Unit (Elt F) ℕ UU ℕ)} {k : PUnit → Prog (TpuEff nD τ sig (Elt F) Λ₀ .tc) α} :
    (commL c ↦[slot c.val]{fullShare} g)
      ⊢ iprop(((commL c ↦[slot c.val]{fullShare} (pieceV off inb).write (Elt F) g w Finset.univ) -∗ wp frame (wpE (defs₀ (F := F)) 𝒱₀ (c : Thread nD τ) none) Set.univ (k ⟨⟩) Q)
          -∗ wp frame (wpE (defs₀ (F := F)) 𝒱₀ (c : Thread nD τ) none) Set.univ
            (.op (.load commM (Rect.unit (s := S8x2x8x1024x64) off S1x2x8x64x64.size inb).toLoadRect hl)
              (fun _ => .op (.store commM (Rect.unit (s := S8x2x8x1024x64) off S1x2x8x64x64.size inb) w Finset.univ hx hm) k)) Q) := by
  have hsub : (pieceV off inb).set ⊆ slot c.val := piece_sub hoff
  iintro HX Hk
  iapply (wp_load 𝒱₀ (c : Thread nD τ) none Set.univ (m := commM) (by
    rw [View.set_slice] at hsub
    exact hsub)) $$ HX; iintro HX
  iapply (wp_store 𝒱₀ (c : Thread nD τ) none Set.univ (m := commM) (r := Rect.unit (s := S8x2x8x1024x64) off S1x2x8x64x64.size inb) (Mk := Finset.univ)
    (by rw [View.setOn_univ]; exact hsub)) $$ HX; iintro HX
  iapply Hk $$ HX

end Local

end Cert.Ring

end
-- ==== Proof.Body.lean ====
/- The kernel's body on one device, from its handshake with its neighbours to the two batches of the result. -/
module

public import proofs.«01_k».proof.Proof.Steps
public import proofs.«01_k».proof.Proof.Gen.KernelIdeal.Points
public import proofs.«01_k».proof.Proof.Gen.KernelIdeal.Launch

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (ρ : Dev nD → PrngReg)

local notation "𝕄" => MT nD τ sig Unit (Elt F) ℕ UU ℕ

def s₀ : MemSt nD τ sig (Elt F) := ⟨m, fun _ => 0, ρ⟩

/-! ## The pipeline's data -/

theorem one_point : cfg0.N = 1 := by decide
def t₀ : Fin cfg0.N := ⟨0, by rw [one_point]; decide⟩
theorem only_point (t : Fin cfg0.N) : t = t₀ := by
  obtain ⟨t, ht⟩ := t; have := one_point; exact Fin.ext (by simp only [t₀]; omega)

/-- What device `c` needs for hop `h`: its two duties, its place at its own two cells. -/
def hopG (c : Dev nD) (h : Fin 7) : sProp 𝕄 :=
  iprop(dutyTok ER (sndC c h) 0 false ∗ dutyTok ER (rcvC (rgt c) h) 0 false ∗ atPos ER (sndC c h) 0 ∅ 0 ∗ atPos ER (rcvC c h) 0 ∅ 0)

/-- The ring's ghost state of device `c`, but for what every device may use: its places at its cells and the duties it pays. -/
def mine (c : Dev nD) : sProp 𝕄 :=
  iprop((bigSep Finset.univ fun h : Fin 7 => hopG c h) ∗ atPos ER (barC c) 0 ∅ 0 ∗ atPos ER (dmaC c 14) 0 ∅ 0 ∗ atPos ER (dmaC c 15) 0 ∅ 0
    ∗ dutyTok ER (barC (lft c)) 0 true ∗ dutyTok ER (barC (rgt c)) 0 false
    ∗ (dutyTok ER (dmaC c 14) 0 false ∗ dutyTok ER (dmaC c 14) 1 false) ∗ dutyTok ER (dmaC c 15) 0 false ∗ dutyTok ER (dmaC c 15) 1 false)

/-- The arrays the kernel copies from itself. -/
def arrays (c : Dev nD) : sProp 𝕄 := iprop((a0L c ↦{fullShare} m (a0L c)) ∗ (a2L c ↦{fullShare} m (a2L c)) ∗ (a3L c ↦{fullShare} m (a3L c)))

def start (c : Dev nD) : sProp 𝕄 :=
  iprop((∃ K, records m K ∗ mine c) ∗ (cred (tallyAt (barC c) () 2) ∗ bigSep Finset.univ fun h : Fin 7 => cred (tallyAt (rcvC c h) () NS))
    ∗ levAts L lv ∗ arrays m c)

def pads (c : Dev nD) : sProp 𝕄 :=
  iprop((∃ f : Buf (Elt F) (commL c), commL c ↦{fullShare} f) ∗ (∃ f : Buf (Elt F) (qL c), qL c ↦{fullShare} f) ∗ (∃ f : Buf (Elt F) (ctxL c), ctxL c ↦{fullShare} f)
    ∗ (∃ f : Buf (Elt F) (kvL c), kvL c ↦{fullShare} f) ∗ (∃ f : Buf (Elt F) (xL c), xL c ↦{fullShare} f))

def Φ₀ (c : Dev nD) : sProp 𝕄 := iprop(start m c ∗ pads c)
def Φ₁ (c : Dev nD) : sProp 𝕄 :=
  iprop(pads c ∗ (bigSep Finset.univ fun j : Fin 16 => semVal (dmaC c j) 0) ∗ semVal (barC c) 0 ∗ arrays m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wqv m c
    | ⟨1, _⟩ => wov m c
    | ⟨2, _⟩ => outAll m c
  Φ t := match t with
    | ⟨0, _⟩ => Φ₀ m c
    | ⟨_ + 1, _⟩ => Φ₁ m c
  q _ := fullShare
  owed t := match t with
    | ⟨0, _⟩ => owed₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sixteen (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

/-! ## Loads and stores of whole buffers and of batches -/

section Moves
variable (c : Dev nD) {α : Type} {Q : α → sProp (MT nD τ sig Unit (Elt F) ℕ UU ℕ)}

theorem z2 : (![0, 0] : Fin 2 → ℕ) = fun _ => 0 := funext fun a => by fin_cases a <;> rfl
theorem z4 : (![0, 0, 0, 0] : Fin 4 → ℕ) = fun _ => 0 := funext fun a => by fin_cases a <;> rfl

theorem load_kv {inb : ∀ a, ![0, 0, 0, 0] a + S2x512x8x64.size a ≤ S2x512x8x64.size a} {f : (cc0_scratch3 : Ref sig .tc).ty.Contents (Elt F)}
    {hl : (Memref.whole cc0_scratch3 : Memref sig .tc .vmem S2x512x8x64 .f32).view.LoadsAt (Rect.unit (s := S2x512x8x64) ![0, 0, 0, 0] S2x512x8x64.size inb).toLoadRect}
    {k : Vec F S2x512x8x64 .f32 → Prog (TpuEff nD τ sig (Elt F) Λ₀ .tc) α} :
    (((c : Thread nD τ).loc cc0_scratch3) ↦{fullShare} f)
      ⊢ iprop(((((c : Thread nD τ).loc cc0_scratch3) ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_scratch3) (Rect.unit (s := S2x512x8x64) ![0, 0, 0, 0] S2x512x8x64.size inb).toLoadRect hl) k) Q) := by
  have h := wp_load (defs := defs₀ (F := F)) (Γ := .empty) 𝒱₀ (c : Thread nD τ) none Set.univ (m := (Memref.whole cc0_scratch3 : Memref sig .tc .vmem S2x512x8x64 .f32))
    (r := (Rect.unit (s := S2x512x8x64) ![0, 0, 0, 0] S2x512x8x64.size inb).toLoadRect) (q := fullShare) (f := f) (hl := hl) (k := k) (Q := Q) (Finset.subset_univ _)
  rw [show (Memref.whole cc0_scratch3 : Memref sig .tc .vmem S2x512x8x64 .f32).view.readAt (Elt F) (Rect.unit (s := S2x512x8x64) ![0, 0, 0, 0] S2x512x8x64.size inb).toLoadRect f = f from
    Memref.readAt_unit_zero (Elt F) cc0_scratch3 z4 _ f] at h
  exact h

theorem load_x {inb : ∀ a, ![0, 0] a + S512x768.size a ≤ S512x768.size a} {f : (cc0_scratch4 : Ref sig .tc).ty.Contents (Elt F)}
    {hl : (Memref.whole cc0_scratch4 : Memref sig .tc .vmem S512x768 .f32).view.LoadsAt (Rect.unit (s := S512x768) ![0, 0] S512x768.size inb).toLoadRect}
    {k : Vec F S512x768 .f32 → Prog (TpuEff nD τ sig (Elt F) Λ₀ .tc) α} :
    (((c : Thread nD τ).loc cc0_scratch4) ↦{fullShare} f)
      ⊢ iprop(((((c : Thread nD τ).loc cc0_scratch4) ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_scratch4) (Rect.unit (s := S512x768) ![0, 0] S512x768.size inb).toLoadRect hl) k) Q) := by
  have h := wp_load (defs := defs₀ (F := F)) (Γ := .empty) 𝒱₀ (c : Thread nD τ) none Set.univ (m := (Memref.whole cc0_scratch4 : Memref sig .tc .vmem S512x768 .f32))
    (r := (Rect.unit (s := S512x768) ![0, 0] S512x768.size inb).toLoadRect) (q := fullShare) (f := f) (hl := hl) (k := k) (Q := Q) (Finset.subset_univ _)
  rw [show (Memref.whole cc0_scratch4 : Memref sig .tc .vmem S512x768 .f32).view.readAt (Elt F) (Rect.unit (s := S512x768) ![0, 0] S512x768.size inb).toLoadRect f = f from
    Memref.readAt_unit_zero (Elt F) cc0_scratch4 z2 _ f] at h
  exact h

theorem load_wq {inb : ∀ a, ![0, 0] a + S768x512.size a ≤ S768x512.size a} {f : (cc0_stg0_0 : Ref sig .tc).ty.Contents (Elt F)}
    {hl : (Memref.whole cc0_stg0_0 : Memref sig .tc .vmem S768x512 .f32).view.LoadsAt (Rect.unit (s := S768x512) ![0, 0] S768x512.size inb).toLoadRect}
    {k : Vec F S768x512 .f32 → Prog (TpuEff nD τ sig (Elt F) Λ₀ .tc) α} :
    (((c : Thread nD τ).loc cc0_stg0_0) ↦{fullShare} f)
      ⊢ iprop(((((c : Thread nD τ).loc cc0_stg0_0) ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg0_0) (Rect.unit (s := S768x512) ![0, 0] S768x512.size inb).toLoadRect hl) k) Q) := by
  have h := wp_load (defs := defs₀ (F := F)) (Γ := .empty) 𝒱₀ (c : Thread nD τ) none Set.univ (m := (Memref.whole cc0_stg0_0 : Memref sig .tc .vmem S768x512 .f32))
    (r := (Rect.unit (s := S768x512) ![0, 0] S768x512.size inb).toLoadRect) (q := fullShare) (f := f) (hl := hl) (k := k) (Q := Q) (Finset.subset_univ _)
  rw [show (Memref.whole cc0_stg0_0 : Memref sig .tc .vmem S768x512 .f32).view.readAt (Elt F) (Rect.unit (s := S768x512) ![0, 0] S768x512.size inb).toLoadRect f = f from
    Memref.readAt_unit_zero (Elt F) cc0_stg0_0 z2 _ f] at h
  exact h

theorem load_wo {inb : ∀ a, ![0, 0] a + S512x768.size a ≤ S512x768.size a} {f : (cc0_stg1_0 : Ref sig .tc).ty.Contents (Elt F)}
    {hl : (Memref.whole cc0_stg1_0 : Memref sig .tc .vmem S512x768 .f32).view.LoadsAt (Rect.unit (s := S512x768) ![0, 0] S512x768.size inb).toLoadRect}
    {k : Vec F S512x768 .f32 → Prog (TpuEff nD τ sig (Elt F) Λ₀ .tc) α} :
    (((c : Thread nD τ).loc cc0_stg1_0) ↦{fullShare} f)
      ⊢ iprop(((((c : Thread nD τ).loc cc0_stg1_0) ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg1_0) (Rect.unit (s := S512x768) ![0, 0] S512x768.size inb).toLoadRect hl) k) Q) := by
  have h := wp_load (defs := defs₀ (F := F)) (Γ := .empty) 𝒱₀ (c : Thread nD τ) none Set.univ (m := (Memref.whole cc0_stg1_0 : Memref sig .tc .vmem S512x768 .f32))
    (r := (Rect.unit (s := S512x768) ![0, 0] S512x768.size inb).toLoadRect) (q := fullShare) (f := f) (hl := hl) (k := k) (Q := Q) (Finset.subset_univ _)
  rw [show (Memref.whole cc0_stg1_0 : Memref sig .tc .vmem S512x768 .f32).view.readAt (Elt F) (Rect.unit (s := S512x768) ![0, 0] S512x768.size inb).toLoadRect f = f from
    Memref.readAt_unit_zero (Elt F) cc0_stg1_0 z2 _ f] at h
  exact h

theorem load_ctx {off : Fin 4 → ℕ} {inb : ∀ a, off a + S1x8x512x64.size a ≤ S2x8x512x64.size a} (b : Fin 2) (hoff : off = ![b.val, 0, 0, 0])
    {hl : (ctxM : Memref sig .tc .vmem S2x8x512x64 .bf16).view.LoadsAt (Rect.unit (s := S2x8x512x64) off S1x8x512x64.size inb).toLoadRect}
    {k : Vec F S1x8x512x64 .bf16 → Prog (TpuEff nD τ sig (Elt F) Λ₀ .tc) α} :
    (ctxL c ↦{fullShare} ctxAll m c)
      ⊢ iprop(((ctxL c ↦{fullShare} ctxAll m c) -∗ wp frame (wpE (defs₀ (F := F)) 𝒱₀ (c : Thread nD τ) none) Set.univ (k (ctxBat m c b)) Q)
          -∗ wp frame (wpE (defs₀ (F := F)) 𝒱₀ (c : Thread nD τ) none) Set.univ (.op (.load ctxM (Rect.unit (s := S2x8x512x64) off S1x8x512x64.size inb).toLoadRect hl) k) Q) := by
  rw [← read_ctxbat m c b hoff (inb := inb)]
  exact wp_load 𝒱₀ (c : Thread nD τ) none Set.univ (m := ctxM) (Finset.subset_univ _)

/-- A batch of the queries stored (after a load whose value is dropped). -/
theorem put_q {off : Fin 4 → ℕ} {inb : ∀ a, off a + S1x8x512x64.size a ≤ S2x8x512x64.size a} {g : Buf (Elt F) (qL c)} {w : Vec F S1x8x512x64 .bf16}
    {hl : (qM : Memref sig .tc .vmem S2x8x512x64 .bf16).view.LoadsAt (Rect.unit (s := S2x8x512x64) off S1x8x512x64.size inb).toLoadRect} {hx} {hm}
    {k : PUnit → Prog (TpuEff nD τ sig (Elt F) Λ₀ .tc) α} :
    (qL c ↦{fullShare} g)
      ⊢ iprop(((qL c ↦{fullShare} (qbatV off inb).write (Elt F) g w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.load qM (Rect.unit (s := S2x8x512x64) off S1x8x512x64.size inb).toLoadRect hl)
            (fun _ => .op (.store qM (Rect.unit (s := S2x8x512x64) off S1x8x512x64.size inb) w Finset.univ hx hm) k)) Q) := by
  iintro HX Hk
  iapply (wp_load 𝒱₀ (c : Thread nD τ) none Set.univ (m := qM) (Finset.subset_univ _)) $$ HX; iintro HX
  iapply (wp_store 𝒱₀ (c : Thread nD τ) none Set.univ (m := qM) (r := Rect.unit (s := S2x8x512x64) off S1x8x512x64.size inb) (Mk := Finset.univ) (Finset.subset_univ _)) $$ HX; iintro HX
  iapply Hk $$ HX

/-- A batch of the result stored (after a load whose value is dropped). -/
theorem put_o {off : Fin 3 → ℕ} {inb : ∀ a, off a + S1x512x768.size a ≤ S2x512x768.size a} {g : (cc0_stg2_0 : Ref sig .tc).ty.Contents (Elt F)} {w : Vec F S1x512x768 .f32}
    {hl : (outM : Memref sig .tc .vmem S2x512x768 .f32).view.LoadsAt (Rect.unit (s := S2x512x768) off S1x512x768.size inb).toLoadRect} {hx} {hm}
    {k : PUnit → Prog (TpuEff nD τ sig (Elt F) Λ₀ .tc) α} :
    (((c : Thread nD τ).loc cc0_stg2_0) ↦{fullShare} g)
      ⊢ iprop(((((c : Thread nD τ).loc cc0_stg2_0) ↦{fullShare} (outV off inb).write (Elt F) g w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.load outM (Rect.unit (s := S2x512x768) off S1x512x768.size inb).toLoadRect hl)
            (fun _ => .op (.store outM (Rect.unit (s := S2x512x768) off S1x512x768.size inb) w Finset.univ hx hm) k)) Q) := by
  iintro HX Hk
  iapply (wp_load 𝒱₀ (c : Thread nD τ) none Set.univ (m := outM) (Finset.subset_univ _)) $$ HX; iintro HX
  iapply (wp_store 𝒱₀ (c : Thread nD τ) none Set.univ (m := outM) (r := Rect.unit (s := S2x512x768) off S1x512x768.size inb) (Mk := Finset.univ) (Finset.subset_univ _)) $$ HX; iintro HX
  iapply Hk $$ HX

end Moves

/-! ## The body -/

section Body

/-- A hop, its numbers written out. -/
theorem hop_at (K : Dev nD × Fin 17 → ℕ) (c n : Dev nD) (hn : n = rgt c) (r : Fin 7) (a b : ℕ) (ha : r.val = a) (hb : r.val + 1 = b)
    {off : Fin 5 → ℕ} {inb : ∀ a, off a + S1x2x8x1024x64.size a ≤ S8x2x8x1024x64.size a}
    (hoff : off = ![sends c r.val, 0, 0, 0, 0]) {sS sR : DmaSem sig} (hs : sS = dq (sndJ r)) (hr : sR = dq (rcvJ r))
    {hsc : (slotM off inb : Memref sig (Dev.tc n : Thread nD τ).2.kind .vmem S2x8x1024x64 .bf16).view.ref.isScScratch = false}
    {hsrc : (slotM off inb).view.WordExact} {hdst : (slotM off inb).view.WordExact}
    {hsem : DmaTarget.Typed .vmem (.dma sR) (.remote (Dev.tc n : Thread nD τ) (slotM off inb) (.dma sS) hsc)}
    {h1 h2 h3 h4 : (slotM off inb).view.WordExact}
    {α : Type} {Q : α → sProp (MT nD τ sig Unit (Elt F) ℕ UU ℕ)} {k : PUnit → Prog (TpuEff nD τ sig (Elt F) Λ₀ .tc) α} :
    iprop(records m K ∗ levAts L lv ∗ (commL c ↦[held c a]{fullShare} allC m) ∗ ahead c a
        ∗ (∃ W, owes (c : Thread nD τ) (owed c a) W) ∗ hopG c r ∗ cred (tallyAt (rcvC c r) () NS))
      ⊢ iprop((((commL c ↦[held c b]{fullShare} allC m) ∗ ahead c b
              ∗ (∃ W, owes (c : Thread nD τ) (owed c b) W) ∗ semVal (sndC c r) 0 ∗ semVal (rcvC c r) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM off inb) (.remote (Dev.tc n : Thread nD τ) (slotM off inb) (.dma sS) hsc) (.dma sR) hsrc hdst hsem)
                fun _ => .op (.waitDma2 sS (slotM off inb) (slotM off inb) h1 h2) fun _ => .op (.waitDma2 sR (slotM off inb) (slotM off inb) h3 h4) k) Q) := by
  subst ha hb
  unfold hopG
  iintro ⟨#HR, #HL, Hh, Ha, HO, ⟨Ts, Tr, As, Ar⟩, HC⟩
  iapply (hop m K c n hn r hoff hs hr) $$ [Hh Ha HO Ts Tr As Ar HC]
  isplitr; · iexact HR
  isplitr; · iexact HL
  isplitl [Hh]; · iexact Hh
  isplitl [Ha]; · iexact Ha
  isplitl [HO]; · iexact HO
  isplitl [Ts]; · iexact Ts
  isplitl [Tr]; · iexact Tr
  isplitl [As]; · iexact As
  isplitl [Ar]; · iexact Ar
  iexact HC

theorem to_left (c : Dev nD) (h : k0_dev1 c < nD) : (⟨k0_dev1 c, h⟩ : Dev nD) = lft c := Fin.ext (k0_dev1_eq c)
theorem to_right (c : Dev nD) (h : k0_dev2 c < nD) : (⟨k0_dev2 c, h⟩ : Dev nD) = rgt c := Fin.ext (k0_dev2_eq c)

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def ends (c : Dev nD) : sProp 𝕄 :=
  iprop((∃ d, stg c cc0_stg0_0 ((dats m ρ 0 c).before (0 : Fin 3) t₀ d)) ∗ (∃ d, stg c cc0_stg1_0 ((dats m ρ 0 c).before (1 : Fin 3) t₀ d))
    ∗ (∃ d, stg c cc0_stg2_0 ((dats m ρ 0 c).before (2 : Fin 3) t₀ d)))
def bodyPre (c : Dev nD) : sProp 𝕄 := iprop(Φ₀ m c ∗ (dats m ρ 0 c).owesAt () t₀.castSucc ∗ ends m ρ c)
def bodyPost (c : Dev nD) : sProp 𝕄 :=
  iprop(Φ₁ m c ∗ (dats m ρ 0 c).owesAt () t₀.succ ∗ stg c cc0_stg0_0 (wqv m c) ∗ stg c cc0_stg1_0 (wov m c) ∗ stg c cc0_stg2_0 (outAll m c))

set_option maxHeartbeats 1000000 in
theorem sound_body (c : Dev nD) :
    bodyPre m ρ c ⊢ wp frame (wpE (defs₀ (F := F)) 𝒱₀ (c : Thread nD τ) none) Set.univ
      (cc0_body (Memref.whole main_arg0) (Memref.isWhole_whole _) (Memref.whole cc0_stg0_0) (Memref.isWhole_whole _) (Memref.whole main_arg2) (Memref.isWhole_whole _) (Memref.whole main_arg3) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8) (fun _ => bodyPost m ρ c) := by
  simp only [cc0_body_eq_skeleton]; unfold cc0_body_skel
  simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, wp_deviceId]
  unfold bodyPre ends Φ₀ start mine arrays pads
  simp only [seven]
  iintro ⟨⟨⟨⟨%K, #HR, ⟨G0, G1, G2, G3, G4, G5, G6⟩, HatB, HatK, HatX, HtL, HtR, ⟨HtK0, HtK1⟩, HtX0, HtX1⟩, ⟨HcB, C0, C1, C2, C3, C4, C5, C6⟩, #HL, HA0, HA2, HA3⟩,
      ⟨⟨%f0, Hcomm⟩, ⟨%f1, HQ⟩, ⟨%f2, HX⟩, ⟨%f3, Hkv⟩, ⟨%f4, Hxs⟩⟩⟩,
    Ho, ⟨%d0, %g0, %hg0, Hwq⟩, ⟨%d1, %g1, %hg1, Hwo⟩, ⟨%d2, %g2, %hg2, Hout⟩⟩
  have hx0 : g0 = wqv m c := by rw [hg0]; unfold Dat.before; rw [if_pos (fetch0_0 t₀)]; rfl
  have hx1 : g1 = wov m c := by rw [hg1]; unfold Dat.before; rw [if_pos (fetch0_1 t₀)]; rfl
  subst hx0 hx1
  unfold Dat.owesAt Pipeline.owesWithin
  icases Ho with ⟨%W, %hW, HO⟩
  rw [show (dats m ρ 0 c).owed t₀.castSucc = owed₀ c from rfl]
  simp only [to_left, to_right]
  -- the signals: to the left with all of the ring buffer but the device's own slot, to the right with nothing
  ihave Hcomm := (pointsTo_split_subset (ℓ := commL c) (q := fullShare) (f := f0) (Finset.subset_univ (slot c.val))).1 $$ Hcomm
  icases Hcomm with ⟨Hown, Hrest⟩
  iapply (Rounds.wp_signal 𝒱₀ ER (sched m) (c : Thread nD τ) none (dst := (lft c : Thread nD τ)) (κ := K (lft c, 0))
      (d := true) (by rw [duties_bar]; exact Finset.mem_univ _) ((amt_bar m (lft c) 0 true).trans (by decide)) () (owedL c) rfl)
    $$ [HO HtL Hrest]
  · isplitr; · iapply (inv_bar m K (lft c)); iexact HR
    isplitl [HO]; · iexact HO
    isplitl [HtL]; · iexact HtL
    isplitl [Hrest]
    · rw [pay_bar_true]; unfold barPay
      rw [rgt_lft, ← others_eq (lft c), rgt_lft]
      iexists f0; iexact Hrest
    · iapply (at_bar m K (lft c)); iexact HR
  iintro HO
  iapply (Rounds.wp_signal 𝒱₀ ER (sched m) (c : Thread nD τ) none (dst := (rgt c : Thread nD τ)) (κ := K (rgt c, 0))
      (d := false) (by rw [duties_bar]; exact Finset.mem_univ _) ((amt_bar m (rgt c) 0 false).trans (by decide)) () (owed c 0) rfl)
    $$ [HO HtR]
  · isplitr; · iapply (inv_bar m K (rgt c)); iexact HR
    isplitl [HO]; · iexact HO
    isplitl [HtR]; · iexact HtR
    isplitr; · rw [pay_bar_false]; iempintro
    iapply (at_bar m K (rgt c)); iexact HR
  iintro HO
  -- the wait for both neighbours' signals: the right one's buffer, but for its own slot, may now be written
  iapply (Rounds.wp_wait_rest_token 𝒱₀ ER (sched m) (c : Thread nD τ) none (κ := K (c, 0))
      (wpE_semWait_eq 𝒱₀ (c : Thread nD τ) none Set.univ) (Set.mem_univ _) () (O := owed c 0) (W := W) (R := 0) (m := 0) (T := ∅)
      (by rw [exp_bar]; decide)) $$ [HcB HO HatB]
  · isplitr; · iapply (inv_bar m K c); iexact HR
    isplitl [HcB]; · iexact HcB
    isplitl [HO]; · iexact HO
    isplitr; · iapply (may_owed c _ 0 1 le_rfl (by omega)); iexact HL
    iexact HatB
  iintro ⟨HO, HatB, -, Hpay⟩
  ihave Hp := (Entails.of_eq (rest_bar m c)) $$ Hpay
  unfold barPay
  icases Hp with ⟨-, Hahead⟩
  imod (Rounds.cell_close ER (sched m) (Set.mem_univ (K (c, 0))) (fun h => h) (R := 0 + 1) (done_bar m c)) $$ [HatB] with HzB
  · isplitr; · iapply (inv_bar m K c); iexact HR
    iexact HatB
  ihave HO := (show (owes (c : Thread nD τ) (owed c 0) (insert (SemLoc.reg barS, ()) W) : sProp 𝕄) ⊢ iprop(∃ W, owes (c : Thread nD τ) (owed c 0) W) from by
    iintro H; iexists _; iexact H) $$ HO
  -- the keys: copied in, rounded and laid out by class, piece by piece, in the device's own slot
  iapply (local_copy m K c 14 (by decide) 0 (by decide) NK (amt_cpy m c 0 false) (src := kH) (dst := kvM) (hs := rfl) rfl (pay_keys_eq m c) (pay_keys m c _)) $$ [HA2 Hkv HO HtK0 HatK ]
  · isplitr; · iexact HR
    isplitr; · iexact HL
    isplitl [HA2]; · rw [show kH.view.set = Finset.univ from View.set_whole _]; iexact HA2
    isplitl [Hkv]; · rw [show kvM.view.set = Finset.univ from View.set_whole _]; iexact Hkv
    isplitl [HO]; · iexact HO
    isplitl [HtK0]; · iexact HtK0
    isplitr; · iapply (at_dma m K c 14); iexact HR
    iexact HatK
  iintro ⟨HO, HatK, HrK, Hkv, HA2⟩
  iapply (load_kv c) $$ Hkv; iintro Hkv
  have hp0 := packed_zero m c f0
  iapply (put_p c (k0_off1_eq c)) $$ Hown; iintro Hown
  have hp1 := packed_step m c (inb := k0_off1_inb c) (n := 0) rfl (k0_off1_eq c) hp0 (piece_key m c (inb := k0_off1_inb c) 0 (by decide) 0 (by decide) (k0_off1_eq c) slices_S2x8x512x64_o0_0_0_0_S2x8x64x64)
  iapply (put_p c (k0_off2_eq c)) $$ Hown; iintro Hown
  have hp2 := packed_step m c (inb := k0_off2_inb c) (n := 1) rfl (k0_off2_eq c) hp1 (piece_key m c (inb := k0_off2_inb c) 1 (by decide) 256 (by decide) (k0_off2_eq c) slices_S2x8x512x64_o0_0_256_0_S2x8x64x64)
  iapply (put_p c (k0_off3_eq c)) $$ Hown; iintro Hown
  have hp3 := packed_step m c (inb := k0_off3_inb c) (n := 2) rfl (k0_off3_eq c) hp2 (piece_key m c (inb := k0_off3_inb c) 2 (by decide) 64 (by decide) (k0_off3_eq c) slices_S2x8x512x64_o0_0_64_0_S2x8x64x64)
  iapply (put_p c (k0_off4_eq c)) $$ Hown; iintro Hown
  have hp4 := packed_step m c (inb := k0_off4_inb c) (n := 3) rfl (k0_off4_eq c) hp3 (piece_key m c (inb := k0_off4_inb c) 3 (by decide) 320 (by decide) (k0_off4_eq c) slices_S2x8x512x64_o0_0_320_0_S2x8x64x64)
  iapply (put_p c (k0_off5_eq c)) $$ Hown; iintro Hown
  have hp5 := packed_step m c (inb := k0_off5_inb c) (n := 4) rfl (k0_off5_eq c) hp4 (piece_key m c (inb := k0_off5_inb c) 4 (by decide) 128 (by decide) (k0_off5_eq c) slices_S2x8x512x64_o0_0_128_0_S2x8x64x64)
  iapply (put_p c (k0_off6_eq c)) $$ Hown; iintro Hown
  have hp6 := packed_step m c (inb := k0_off6_inb c) (n := 5) rfl (k0_off6_eq c) hp5 (piece_key m c (inb := k0_off6_inb c) 5 (by decide) 384 (by decide) (k0_off6_eq c) slices_S2x8x512x64_o0_0_384_0_S2x8x64x64)
  iapply (put_p c (k0_off7_eq c)) $$ Hown; iintro Hown
  have hp7 := packed_step m c (inb := k0_off7_inb c) (n := 6) rfl (k0_off7_eq c) hp6 (piece_key m c (inb := k0_off7_inb c) 6 (by decide) 192 (by decide) (k0_off7_eq c) slices_S2x8x512x64_o0_0_192_0_S2x8x64x64)
  iapply (put_p c (k0_off8_eq c)) $$ Hown; iintro Hown
  have hp8 := packed_step m c (inb := k0_off8_inb c) (n := 7) rfl (k0_off8_eq c) hp7 (piece_key m c (inb := k0_off8_inb c) 7 (by decide) 448 (by decide) (k0_off8_eq c) slices_S2x8x512x64_o0_0_448_0_S2x8x64x64)
  -- the values, likewise
  iapply (local_copy m K c 14 (by decide) 1 (by decide) NK (amt_cpy m c 1 false) (src := vH) (dst := kvM) (hs := rfl) rfl (pay_vals_eq m c) (pay_vals m c _)) $$ [HA3 Hkv HO HtK1 HatK HrK]
  · isplitr; · iexact HR
    isplitr; · iexact HL
    isplitl [HA3]; · rw [show vH.view.set = Finset.univ from View.set_whole _]; iexact HA3
    isplitl [Hkv]; · rw [show kvM.view.set = Finset.univ from View.set_whole _]; iexact Hkv
    isplitl [HO]; · iexact HO
    isplitl [HtK1]; · iexact HtK1
    isplitl [HrK]; · iexact HrK
    iexact HatK
  iintro ⟨HO, HatK, HrK, Hkv, HA3⟩
  iapply (load_kv c) $$ Hkv; iintro Hkv
  iapply (put_p c (k0_off9_eq c)) $$ Hown; iintro Hown
  have hp9 := packed_step m c (inb := k0_off9_inb c) (n := 8) rfl (k0_off9_eq c) hp8 (piece_val m c (inb := k0_off9_inb c) 0 (by decide) 0 (by decide) (k0_off9_eq c) slices_S2x8x512x64_o0_0_0_0_S2x8x64x64)
  iapply (put_p c (k0_off10_eq c)) $$ Hown; iintro Hown
  have hp10 := packed_step m c (inb := k0_off10_inb c) (n := 9) rfl (k0_off10_eq c) hp9 (piece_val m c (inb := k0_off10_inb c) 1 (by decide) 256 (by decide) (k0_off10_eq c) slices_S2x8x512x64_o0_0_256_0_S2x8x64x64)
  iapply (put_p c (k0_off11_eq c)) $$ Hown; iintro Hown
  have hp11 := packed_step m c (inb := k0_off11_inb c) (n := 10) rfl (k0_off11_eq c) hp10 (piece_val m c (inb := k0_off11_inb c) 2 (by decide) 64 (by decide) (k0_off11_eq c) slices_S2x8x512x64_o0_0_64_0_S2x8x64x64)
  iapply (put_p c (k0_off12_eq c)) $$ Hown; iintro Hown
  have hp12 := packed_step m c (inb := k0_off12_inb c) (n := 11) rfl (k0_off12_eq c) hp11 (piece_val m c (inb := k0_off12_inb c) 3 (by decide) 320 (by decide) (k0_off12_eq c) slices_S2x8x512x64_o0_0_320_0_S2x8x64x64)
  iapply (put_p c (k0_off13_eq c)) $$ Hown; iintro Hown
  have hp13 := packed_step m c (inb := k0_off13_inb c) (n := 12) rfl (k0_off13_eq c) hp12 (piece_val m c (inb := k0_off13_inb c) 4 (by decide) 128 (by decide) (k0_off13_eq c) slices_S2x8x512x64_o0_0_128_0_S2x8x64x64)
  iapply (put_p c (k0_off14_eq c)) $$ Hown; iintro Hown
  have hp14 := packed_step m c (inb := k0_off14_inb c) (n := 13) rfl (k0_off14_eq c) hp13 (piece_val m c (inb := k0_off14_inb c) 5 (by decide) 384 (by decide) (k0_off14_eq c) slices_S2x8x512x64_o0_0_384_0_S2x8x64x64)
  iapply (put_p c (k0_off15_eq c)) $$ Hown; iintro Hown
  have hp15 := packed_step m c (inb := k0_off15_inb c) (n := 14) rfl (k0_off15_eq c) hp14 (piece_val m c (inb := k0_off15_inb c) 6 (by decide) 192 (by decide) (k0_off15_eq c) slices_S2x8x512x64_o0_0_192_0_S2x8x64x64)
  iapply (put_p c (k0_off16_eq c)) $$ Hown; iintro Hown
  have hp16 := packed_step m c (inb := k0_off16_inb c) (n := 15) rfl (k0_off16_eq c) hp15 (piece_val m c (inb := k0_off16_inb c) 7 (by decide) 448 (by decide) (k0_off16_eq c) slices_S2x8x512x64_o0_0_448_0_S2x8x64x64)
  ihave Hown := (Entails.of_eq (pointsTo_congr (packed_all m c hp16))) $$ Hown
  rw [slot_eq_held]
  -- the queries, batch by batch
  iapply (load_wq c) $$ Hwq; iintro Hwq
  ihave HA0 := (pointsTo_split_subset (ℓ := a0L c) (q := fullShare) (f := m (a0L c)) (Finset.subset_univ rowM0.view.set)).1 $$ HA0
  icases HA0 with ⟨HA00, HA01⟩
  rw [row_rest]
  iapply (local_copy m K c 15 (by decide) 0 (by decide) NX (amt_act m c 0 false) (src := rowM0) (dst := xM) (hs := rfl) rfl (pay_row0_eq m c) (pay_row m c _)) $$ [HA00 Hxs HO HtX0 HatX ]
  · isplitr; · iexact HR
    isplitr; · iexact HL
    isplitl [HA00]; · iexact HA00
    isplitl [Hxs]; · rw [show xM.view.set = Finset.univ from View.set_whole _]; iexact Hxs
    isplitl [HO]; · iexact HO
    isplitl [HtX0]; · iexact HtX0
    isplitr; · iapply (at_dma m K c 15); iexact HR
    iexact HatX
  iintro ⟨HO, HatX, HrX, Hxs, HA00⟩
  iapply (load_x c) $$ Hxs; iintro Hxs
  iapply (put_q c) $$ HQ; iintro HQ
  have hq1 := asked_step m c (inb := inb_S2x8x512x64_S1x8x512x64_0_0_0_0) 0 rfl (asked_zero m c f1) (w := k0_pay71 (F := F) (k0_pay70 (wqv m c) (row0 m c))) rfl
  iapply (local_copy m K c 15 (by decide) 1 (by decide) NX (amt_act m c 1 false) (src := rowM1) (dst := xM) (hs := rfl) rfl (pay_row1_eq m c) (pay_row m c _)) $$ [HA01 Hxs HO HtX1 HatX HrX]
  · isplitr; · iexact HR
    isplitr; · iexact HL
    isplitl [HA01]; · iexact HA01
    isplitl [Hxs]; · rw [show xM.view.set = Finset.univ from View.set_whole _]; iexact Hxs
    isplitl [HO]; · iexact HO
    isplitl [HtX1]; · iexact HtX1
    isplitl [HrX]; · iexact HrX
    iexact HatX
  iintro ⟨HO, HatX, HrX, Hxs, HA01⟩
  iapply (load_x c) $$ Hxs; iintro Hxs
  iapply (put_q c) $$ HQ; iintro HQ
  have hq2 := asked_step m c (inb := inb_S2x8x512x64_S1x8x512x64_1_0_0_0) 1 rfl hq1 (w := k0_pay72 (F := F) (k0_pay69 (wqv m c)) (row1 m c)) rfl
  ihave HQ := (Entails.of_eq (congrArg (fun f : Buf (Elt F) (qL c) => (qL c ↦{fullShare} f : sProp 𝕄)) (asked_all m c hq2))) $$ HQ
  imod (Rounds.cell_close ER (sched m) (Set.mem_univ (K (c, (14 : Fin 16).succ))) (fun h => h) (R := 1 + 1) (done_two m c 14 (by decide))) $$ [HatK] with Z14
  · isplitr; · iapply (inv_dma m K c 14); iexact HR
    iexact HatK
  imod (Rounds.cell_close ER (sched m) (Set.mem_univ (K (c, (15 : Fin 16).succ))) (fun h => h) (R := 1 + 1) (done_two m c 15 (by decide))) $$ [HatX] with Z15
  · isplitr; · iapply (inv_dma m K c 15); iexact HR
    iexact HatX
  -- the seven hops
  ihave Hahead := (show iprop(∃ f : Buf (Elt F) (commL (rgt c)), commL (rgt c) ↦[togo c 0]{fullShare} f) ⊢ (ahead c 0 : sProp 𝕄) from by unfold ahead; iintro H; iexact H) $$ Hahead
  iapply (hop_at m K c _ (Fin.ext (k0_dev3_eq c)) 0 0 1 rfl rfl (k0_off17_eq c 0) (by rfl) (by rfl)) $$ [Hown Hahead HO G0 C0]
  · isplitr; · iexact HR
    isplitr; · iexact HL
    isplitl [Hown]; · iexact Hown
    isplitl [Hahead]; · iexact Hahead
    isplitl [HO]; · iexact HO
    isplitl [G0]; · iexact G0
    iexact C0
  iintro ⟨Hown, Hahead, HO, Z0, Z7⟩
  iapply (hop_at m K c _ (Fin.ext (k0_dev4_eq c)) 1 1 2 rfl rfl (k0_off17_eq c 1) (by rfl) (by rfl)) $$ [Hown Hahead HO G1 C1]
  · isplitr; · iexact HR
    isplitr; · iexact HL
    isplitl [Hown]; · iexact Hown
    isplitl [Hahead]; · iexact Hahead
    isplitl [HO]; · iexact HO
    isplitl [G1]; · iexact G1
    iexact C1
  iintro ⟨Hown, Hahead, HO, Z1, Z8⟩
  iapply (hop_at m K c _ (Fin.ext (k0_dev5_eq c)) 2 2 3 rfl rfl (k0_off17_eq c 2) (by rfl) (by rfl)) $$ [Hown Hahead HO G2 C2]
  · isplitr; · iexact HR
    isplitr; · iexact HL
    isplitl [Hown]; · iexact Hown
    isplitl [Hahead]; · iexact Hahead
    isplitl [HO]; · iexact HO
    isplitl [G2]; · iexact G2
    iexact C2
  iintro ⟨Hown, Hahead, HO, Z2, Z9⟩
  iapply (hop_at m K c _ (Fin.ext (k0_dev6_eq c)) 3 3 4 rfl rfl (k0_off17_eq c 3) (by rfl) (by rfl)) $$ [Hown Hahead HO G3 C3]
  · isplitr; · iexact HR
    isplitr; · iexact HL
    isplitl [Hown]; · iexact Hown
    isplitl [Hahead]; · iexact Hahead
    isplitl [HO]; · iexact HO
    isplitl [G3]; · iexact G3
    iexact C3
  iintro ⟨Hown, Hahead, HO, Z3, Z10⟩
  iapply (hop_at m K c _ (Fin.ext (k0_dev7_eq c)) 4 4 5 rfl rfl (k0_off17_eq c 4) (by rfl) (by rfl)) $$ [Hown Hahead HO G4 C4]
  · isplitr; · iexact HR
    isplitr; · iexact HL
    isplitl [Hown]; · iexact Hown
    isplitl [Hahead]; · iexact Hahead
    isplitl [HO]; · iexact HO
    isplitl [G4]; · iexact G4
    iexact C4
  iintro ⟨Hown, Hahead, HO, Z4, Z11⟩
  iapply (hop_at m K c _ (Fin.ext (k0_dev8_eq c)) 5 5 6 rfl rfl (k0_off17_eq c 5) (by rfl) (by rfl)) $$ [Hown Hahead HO G5 C5]
  · isplitr; · iexact HR
    isplitr; · iexact HL
    isplitl [Hown]; · iexact Hown
    isplitl [Hahead]; · iexact Hahead
    isplitl [HO]; · iexact HO
    isplitl [G5]; · iexact G5
    iexact C5
  iintro ⟨Hown, Hahead, HO, Z5, Z12⟩
  iapply (hop_at m K c _ (Fin.ext (k0_dev9_eq c)) 6 6 7 rfl rfl (k0_off17_eq c 6) (by rfl) (by rfl)) $$ [Hown Hahead HO G6 C6]
  · isplitr; · iexact HR
    isplitr; · iexact HL
    isplitl [Hown]; · iexact Hown
    isplitl [Hahead]; · iexact Hahead
    isplitl [HO]; · iexact HO
    isplitl [G6]; · iexact G6
    iexact C6
  iintro ⟨Hown, Hahead, HO, Z6, Z13⟩
  icases HO with ⟨%W', HO⟩
  ihave Hown := (Entails.of_eq (congrArg (fun S => (commL c ↦[S]{fullShare} allC m : sProp 𝕄)) (held_seven c))) $$ Hown
  -- the attention, block by block
  rw [wp_bind]
  iapply (Scf.wp_for_bind frame (wpE (defs₀ (F := F)) 𝒱₀ (c : Thread nD τ) none) Set.univ k0_t1_loop.lb k0_t1_loop.ub k0_t1_loop.st k0_t1_ok ⟨⟩
    (k0_t1_body (Memref.whole main_arg0) (Memref.isWhole_whole _) (Memref.whole cc0_stg0_0) (Memref.isWhole_whole _) (Memref.whole main_arg2) (Memref.isWhole_whole _) (Memref.whole main_arg3) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 c (Scalar.remsi (Scalar.addi (Scalar.remsi (Scalar.divsi (Dev.word c) 1#32) 8#32) 1#32) 8#32)) (fun k _ => tripInv m c k)
    (fun k u => trip m c c _ k u)) $$ [Hown HQ HX]
  · unfold tripInv
    isplitl [Hown]; · iexact Hown
    isplitl [HQ]; · iexact HQ
    iexists f2
    isplitr; · ipureintro; exact mixed_zero m c f2
    iexact HX
  iintro %u HT
  unfold tripInv
  icases HT with ⟨Hown, HQ, %g3, %hg3, HX⟩
  have hx3 : g3 = ctxAll m c := mixed_all m c hg3
  subst hx3
  -- the result, batch by batch
  iapply (load_wo c) $$ Hwo; iintro Hwo
  iapply (load_ctx m c 0 rfl) $$ HX; iintro HX
  iapply (wp_load 𝒱₀ (c : Thread nD τ) none Set.univ (m := outM) (Finset.subset_univ _)) $$ Hout; iintro Hout
  rw [wp_ret]; imodintro
  iapply (wp_store 𝒱₀ (c : Thread nD τ) none Set.univ (m := outM) (r := Rect.unit (s := S2x512x768) ![0, 0, 0] S1x512x768.size inb_S2x512x768_S1x512x768_0_0_0) (Mk := Finset.univ) (Finset.subset_univ _)) $$ Hout; iintro Hout
  have ho1 := done_step m c (inb := inb_S2x512x768_S1x512x768_0_0_0) 0 rfl (done_zero m c g2) (w := k0_pay1 (F := F) (k0_pay76 (wov m c) (ctxBat m c 0))) rfl
  iapply (load_ctx m c 1 rfl) $$ HX; iintro HX
  iapply (put_o c) $$ Hout; iintro Hout
  have ho2 := done_step m c (inb := inb_S2x512x768_S1x512x768_1_0_0) 1 rfl ho1 (w := k0_pay2 (F := F) (k0_pay75 (wov m c)) (ctxBat m c 1)) rfl
  rw [wp_ret]; imodintro
  unfold bodyPost Φ₁ pads arrays Dat.owesAt Pipeline.owesWithin
  rw [show (dats m ρ 0 c).owed t₀.succ = 0 from rfl, sixteen]
  isplitl [Hown HQ HX Hkv Hxs Z0 Z1 Z2 Z3 Z4 Z5 Z6 Z7 Z8 Z9 Z10 Z11 Z12 Z13 Z14 Z15 HzB HA00 HA01 HA2 HA3]
  · isplitl [Hown HQ HX Hkv Hxs]
    · isplitl [Hown]; · iexists _; iexact Hown
      isplitl [HQ]; · iexists _; iexact HQ
      isplitl [HX]; · iexists _; iexact HX
      isplitl [Hkv]; · iexists _; iexact Hkv
      iexists _; iexact Hxs
    isplitl [Z0 Z1 Z2 Z3 Z4 Z5 Z6 Z7 Z8 Z9 Z10 Z11 Z12 Z13 Z14 Z15]
    · isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      iexact Z15
    isplitl [HzB]; · iexact HzB
    isplitl [HA00 HA01]
    · iapply (pointsTo_split_subset (ℓ := a0L c) (q := fullShare) (f := m (a0L c)) (Finset.subset_univ rowM0.view.set)).2
      rw [row_rest]
      isplitl [HA00] <;> iassumption
    isplitl [HA2] <;> iassumption
  isplitl [HO]
  · iexists W'
    isplitr; · ipureintro; exact fun _ _ => Or.inl trivial
    rw [← owed_seven c]; iexact HO
  isplitl [Hwq]
  · iexists _; isplitr; · (ipureintro; rfl)
    iexact Hwq
  isplitl [Hwo]
  · iexists _; isplitr; · (ipureintro; rfl)
    iexact Hwo
  iexists _; isplitr; · (ipureintro; exact done_all m c ho2)
  iexact Hout

/-- The library's body obligation on device `c`. -/
theorem body_obligation (c : Dev nD) : BodyObligation (dats (F := F) m ρ 0 c) (defs₀ (F := F)) 𝒱₀ () Set.univ := fun t => by
  rw [only_point t]
  rw [bigSep_W0, bigSep_W0]
  simp only [owns_whole]
  exact sound_body m ρ c

end Body

end Cert.Ring

end
-- ==== Proof.Launch.lean ====
/- The launch: the ring's cells and duties made for all devices at once, each device handed its own, and what the run
   leaves. -/
module

public import proofs.«01_k».proof.Proof.Body
public import Idealize.ShloMosaic.Lib.Pipeline.CollectiveSegs
public import Idealize.ShloMosaic.Lib.Quiescent

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (ρ : Dev nD → PrngReg)

local notation "𝕄" => MT nD τ sig Unit (Elt F) ℕ UU ℕ

theorem own_sems : Pipeline.OwnSemFacts cfg0.spec osem := by decide

theorem share_full (c : Dev nD) (w : Fin cfg0.W) : (dats m ρ 0 c).share w = fullShare := by unfold Dat.share; split <;> rfl

/-! ## Cells and duties at launch -/

def allCells : Finset (GSem nD τ sig) := Finset.univ.map ⟨kcell, kcell_inj⟩

set_option backward.proofsInPublic true in
/-- Which duty is the `j`th of a device's own cells: the cell, the round, the payer. -/
def duty (j : Fin 20) : SemLoc sig × ℕ × Bool :=
  if j.val = 0 then (.reg barS, 0, false) else if j.val = 1 then (.reg barS, 0, true)
  else if h : j.val < 16 then (.dma (dq ⟨j.val - 2, by omega⟩), 0, false)
  else if j.val < 18 then (.dma (dq 14), j.val - 16, false) else (.dma (dq 15), j.val - 18, false)
abbrev tok (cj : Dev nD × Fin 20) : GSem nD τ sig × ℕ × Bool := (((cj.1 : Thread nD τ), (duty cj.2).1), (duty cj.2).2)

theorem duty_inj : Function.Injective duty := by decide +kernel
theorem tok_inj : Function.Injective (tok : Dev nD × Fin 20 → GSem nD τ sig × ℕ × Bool) := by
  rintro ⟨c, k⟩ ⟨c', k'⟩ h
  have h1 : c = c' := congrArg (fun g : GSem nD τ sig × ℕ × Bool => g.1.1.1) h
  have h2 : k = k' := duty_inj (Prod.ext (congrArg (fun g : GSem nD τ sig × ℕ × Bool => g.1.2) h) (show (duty k).2 = (duty k').2 from congrArg (fun g : GSem nD τ sig × ℕ × Bool => g.2) h))
  rw [h1, h2]
def allToks : Finset (GSem nD τ sig × ℕ × Bool) := Finset.univ.map ⟨tok, tok_inj⟩

def u₀ : UU := (initOf (Pipeline.cells cfgs cellOf_inj) (Pipeline.launchToks cfgs cellOf_inj), initOf allCells allToks)

/-- The duties of device `c`'s own cells. -/
def minted (c : Dev nD) : sProp 𝕄 := bigSep Finset.univ fun j : Fin 20 => dutyTok ER (tok (c, j)).1 (tok (c, j)).2.1 (tok (c, j)).2.2

/-- The same by kind. -/
def kinds (c : Dev nD) : sProp 𝕄 :=
  iprop((dutyTok ER (barC c) 0 false ∗ dutyTok ER (barC c) 0 true) ∗ (bigSep Finset.univ fun h : Fin 7 => dutyTok ER (sndC c h) 0 false)
    ∗ (bigSep Finset.univ fun h : Fin 7 => dutyTok ER (rcvC c h) 0 false)
    ∗ (dutyTok ER (dmaC c 14) 0 false ∗ dutyTok ER (dmaC c 14) 1 false) ∗ dutyTok ER (dmaC c 15) 0 false ∗ dutyTok ER (dmaC c 15) 1 false)
/-- The duties device `c` pays. -/
def pays (c : Dev nD) : sProp 𝕄 :=
  iprop((dutyTok ER (barC (rgt c)) 0 false ∗ dutyTok ER (barC (lft c)) 0 true) ∗ (bigSep Finset.univ fun h : Fin 7 => dutyTok ER (sndC c h) 0 false)
    ∗ (bigSep Finset.univ fun h : Fin 7 => dutyTok ER (rcvC (rgt c) h) 0 false)
    ∗ (dutyTok ER (dmaC c 14) 0 false ∗ dutyTok ER (dmaC c 14) 1 false) ∗ dutyTok ER (dmaC c 15) 0 false ∗ dutyTok ER (dmaC c 15) 1 false)

theorem twenty (Φ : Fin 20 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ
theorem seventeen (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem minted_kinds (c : Dev nD) : minted c ⊢ (kinds c : sProp 𝕄) := by
  have h : (minted c : sProp 𝕄) = iprop(dutyTok ER (barC c) 0 false ∗ dutyTok ER (barC c) 0 true ∗ dutyTok ER (sndC c 0) 0 false ∗ dutyTok ER (sndC c 1) 0 false ∗ dutyTok ER (sndC c 2) 0 false ∗ dutyTok ER (sndC c 3) 0 false ∗ dutyTok ER (sndC c 4) 0 false ∗ dutyTok ER (sndC c 5) 0 false ∗ dutyTok ER (sndC c 6) 0 false ∗ dutyTok ER (rcvC c 0) 0 false ∗ dutyTok ER (rcvC c 1) 0 false ∗ dutyTok ER (rcvC c 2) 0 false ∗ dutyTok ER (rcvC c 3) 0 false ∗ dutyTok ER (rcvC c 4) 0 false ∗ dutyTok ER (rcvC c 5) 0 false ∗ dutyTok ER (rcvC c 6) 0 false ∗ dutyTok ER (dmaC c 14) 0 false ∗ dutyTok ER (dmaC c 14) 1 false ∗ dutyTok ER (dmaC c 15) 0 false ∗ dutyTok ER (dmaC c 15) 1 false) := by
    unfold minted; rw [twenty]; rfl
  rw [h]; unfold kinds; rw [seven, seven]
  iintro ⟨T0, T1, T2, T3, T4, T5, T6, T7, T8, T9, T10, T11, T12, T13, T14, T15, T16, T17, T18, T19⟩
  isplitl [T0 T1]
  · isplitl [T0] <;> iassumption
  isplitl [T2 T3 T4 T5 T6 T7 T8]
  · isplitl [T2]; · iexact T2
    isplitl [T3]; · iexact T3
    isplitl [T4]; · iexact T4
    isplitl [T5]; · iexact T5
    isplitl [T6]; · iexact T6
    isplitl [T7]; · iexact T7
    iexact T8
  isplitl [T9 T10 T11 T12 T13 T14 T15]
  · isplitl [T9]; · iexact T9
    isplitl [T10]; · iexact T10
    isplitl [T11]; · iexact T11
    isplitl [T12]; · iexact T12
    isplitl [T13]; · iexact T13
    isplitl [T14]; · iexact T14
    iexact T15
  isplitl [T16 T17]
  · isplitl [T16] <;> iassumption
  isplitl [T18] <;> iassumption

/-- The duties dealt around the ring. -/
theorem deal : (bigSep Finset.univ fun c : Dev nD => (kinds c : sProp 𝕄)) ⊢ bigSep Finset.univ fun c : Dev nD => pays c := by
  unfold kinds pays
  simp only [bigSep_sep']
  rw [bigSep_univ_equiv turn (fun c : Dev nD => (dutyTok ER (barC c) 0 false : sProp 𝕄)),
    bigSep_univ_equiv turn.symm (fun c : Dev nD => (dutyTok ER (barC c) 0 true : sProp 𝕄)),
    bigSep_univ_equiv turn (fun c : Dev nD => (bigSep Finset.univ fun h : Fin 7 => dutyTok ER (rcvC c h) 0 false : sProp 𝕄))]
  exact .rfl

/-- With its places, they are the ring's ghost state of a device. -/
theorem mine_intro (c : Dev nD) : iprop((bigSep Finset.univ fun k : Fin 17 => atPos ER (kcell (c, k)) 0 ∅ 0) ∗ pays c) ⊢ (mine c : sProp 𝕄) := by
  have h : (bigSep Finset.univ fun k : Fin 17 => (atPos ER (kcell (c, k)) 0 ∅ 0 : sProp 𝕄))
      = iprop(atPos ER (barC c) 0 ∅ 0 ∗ atPos ER (sndC c 0) 0 ∅ 0 ∗ atPos ER (sndC c 1) 0 ∅ 0 ∗ atPos ER (sndC c 2) 0 ∅ 0 ∗ atPos ER (sndC c 3) 0 ∅ 0 ∗ atPos ER (sndC c 4) 0 ∅ 0 ∗ atPos ER (sndC c 5) 0 ∅ 0 ∗ atPos ER (sndC c 6) 0 ∅ 0
        ∗ atPos ER (rcvC c 0) 0 ∅ 0 ∗ atPos ER (rcvC c 1) 0 ∅ 0 ∗ atPos ER (rcvC c 2) 0 ∅ 0 ∗ atPos ER (rcvC c 3) 0 ∅ 0 ∗ atPos ER (rcvC c 4) 0 ∅ 0 ∗ atPos ER (rcvC c 5) 0 ∅ 0 ∗ atPos ER (rcvC c 6) 0 ∅ 0 ∗ atPos ER (dmaC c 14) 0 ∅ 0 ∗ atPos ER (dmaC c 15) 0 ∅ 0) := by
    rw [seventeen]; rfl
  rw [h]; unfold pays mine hopG; simp only [seven]
  iintro ⟨⟨B, S0, S1, S2, S3, S4, S5, S6, R0, R1, R2, R3, R4, R5, R6, C, X⟩, ⟨TB0, TB1⟩, ⟨TS0, TS1, TS2, TS3, TS4, TS5, TS6⟩, ⟨TR0, TR1, TR2, TR3, TR4, TR5, TR6⟩, TC, TX⟩
  isplitl [TS0 TR0 S0 R0 TS1 TR1 S1 R1 TS2 TR2 S2 R2 TS3 TR3 S3 R3 TS4 TR4 S4 R4 TS5 TR5 S5 R5 TS6 TR6 S6 R6]
  · isplitl [TS0 TR0 S0 R0]
    · isplitl [TS0]; · iexact TS0
      isplitl [TR0]; · iexact TR0
      isplitl [S0]; · iexact S0
      iexact R0
    isplitl [TS1 TR1 S1 R1]
    · isplitl [TS1]; · iexact TS1
      isplitl [TR1]; · iexact TR1
      isplitl [S1]; · iexact S1
      iexact R1
    isplitl [TS2 TR2 S2 R2]
    · isplitl [TS2]; · iexact TS2
      isplitl [TR2]; · iexact TR2
      isplitl [S2]; · iexact S2
      iexact R2
    isplitl [TS3 TR3 S3 R3]
    · isplitl [TS3]; · iexact TS3
      isplitl [TR3]; · iexact TR3
      isplitl [S3]; · iexact S3
      iexact R3
    isplitl [TS4 TR4 S4 R4]
    · isplitl [TS4]; · iexact TS4
      isplitl [TR4]; · iexact TR4
      isplitl [S4]; · iexact S4
      iexact R4
    isplitl [TS5 TR5 S5 R5]
    · isplitl [TS5]; · iexact TS5
      isplitl [TR5]; · iexact TR5
      isplitl [S5]; · iexact S5
      iexact R5
    · isplitl [TS6]; · iexact TS6
      isplitl [TR6]; · iexact TR6
      isplitl [S6]; · iexact S6
      iexact R6
  isplitl [B]; · iexact B
  isplitl [C]; · iexact C
  isplitl [X]; · iexact X
  isplitl [TB1]; · iexact TB1
  isplitl [TB0]; · iexact TB0
  isplitl [TC] <;> iassumption

/-! ## From the launch's element to every device's start -/

/-- What the launch deals device `c`. -/
def G (c : Dev nD) : sProp 𝕄 :=
  iprop((bigSep Finset.univ fun k : Fin 17 => roundState ER (sched m) (kcell (c, k)) 0)
    ∗ (bigSep Finset.univ fun k : Fin 17 => iprop(atPos ER (kcell (c, k)) 0 ∅ 0 ∗ reached ER (kcell (c, k)) 0)) ∗ kinds c)

/-- What the devices' common step makes of it. -/
def G' (c : Dev nD) : sProp 𝕄 := iprop(∃ K, records m K ∗ mine c)

theorem fund : BI.own (ER (initOf allCells allToks)) ⊢ (|==> bigSep Finset.univ (G m) : sProp 𝕄) := by
  have hC (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]; rfl
  iintro HX
  imod (Rounds.fund ER (sched m) allCells allToks) $$ HX with ⟨Hst, Hr, Hat, Htok⟩
  imodintro
  ihave Hst' := (Entails.of_eq (hC fun g => roundState ER (sched m) g 0)) $$ Hst
  ihave Hat' := (Entails.of_eq (hC fun g => atPos ER g 0 ∅ 0)) $$ Hat
  ihave Hr' := (Entails.of_eq (hC fun g => reached ER g 0)) $$ Hr
  ihave Htok' := ((Entails.of_eq hT).trans (bigSep_mono fun c _ => minted_kinds c)) $$ Htok
  unfold G; simp only [bigSep_sep']
  isplitl [Hst']; · iexact Hst'
  isplitl [Hat' Hr']
  · isplitl [Hat'] <;> iassumption
  iexact Htok'

abbrev ownSems (c : Dev nD) : sProp 𝕄 := Pipeline.ownSems0 (Ix := Unit) (Name := ℕ) (U := UU) (Lvl := ℕ) (Val := Elt F) (τ := τ) osem c

theorem ownSems_eq (c : Dev nD) : (ownSems c : sProp 𝕄) = bigSep Finset.univ fun j : Fin 16 => semVal (dmaC c j) 0 := by
  unfold ownSems; rw [Pipeline.ownSems0_eq_of_list c osem [0, 1, 2, 3, 4, 5, 6, 7, 8, 9, 10, 11, 12, 13, 14, 15] (by decide) (by decide), sixteen]; rfl
theorem barSem_eq (c : Dev nD) : (unscopedSems0 c : sProp 𝕄) = semVal (barC c) 0 := by
  unfold unscopedSems0; rw [bigSep_eq_bigSepL_of_eq [SemLoc.reg barS] (by decide) (by decide)]; rfl

theorem zeros (c : Dev nD) : iprop(ownSems c ∗ unscopedSems0 c) ⊢ (bigSep Finset.univ fun k : Fin 17 => semVal (kcell (c, k)) 0 : sProp 𝕄) := by
  rw [ownSems_eq, barSem_eq, seventeen, sixteen]
  iintro ⟨HS, HB⟩
  isplitl [HB]; · iexact HB
  iexact HS

theorem open_cells (c : Dev nD) : iprop(ownSems c ∗ unscopedSems0 c ∗ G m c)
    ⊢ |={Set.univ}=> iprop((bigSep Finset.univ fun k : Fin 17 => iprop(∃ κ : ℕ, cellInv ER (sched m) κ (kcell (c, k))))
        ∗ (bigSep Finset.univ fun k : Fin 17 => iprop(atPos ER (kcell (c, k)) 0 ∅ 0 ∗ reached ER (kcell (c, k)) 0)) ∗ kinds c) := by
  unfold G
  iintro ⟨Hos, Hus, Hst, Hat, Htok⟩
  ihave Hv := (zeros (F := F) c) $$ [Hos Hus]
  · isplitl [Hos] <;> iassumption
  imod (show iprop((bigSep Finset.univ fun k : Fin 17 => semVal (kcell (c, k)) 0) ∗ bigSep Finset.univ fun k : Fin 17 => roundState ER (sched m) (kcell (c, k)) 0)
      ⊢ (|={Set.univ}=> bigSep Finset.univ fun k : Fin 17 => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem share_out (K : Dev nD × Fin 17 → ℕ) (Φ : Dev nD → sProp (MT nD τ sig Unit (Elt F) ℕ UU ℕ)) :
    iprop(records m K ∗ bigSep Finset.univ Φ) ⊢ bigSep Finset.univ fun c => iprop(records m K ∗ Φ c) := by
  rw [bigSep_sep']; exact sep_mono_left (BI.bigSep_of_persistent Finset.univ _)

theorem regroup :
    (bigSep Finset.univ fun c : Dev nD => iprop((bigSep Finset.univ fun k : Fin 17 => iprop(∃ κ : ℕ, cellInv ER (sched m) κ (kcell (c, k))))
        ∗ (bigSep Finset.univ fun k : Fin 17 => iprop(atPos ER (kcell (c, k)) 0 ∅ 0 ∗ reached ER (kcell (c, k)) 0)) ∗ kinds c) : sProp 𝕄)
      ⊢ bigSep Finset.univ (G' m) := by
  rw [bigSep_sep', bigSep_sep', ← bigSep_univ_prod (fun cj : Dev nD × Fin 17 => iprop(∃ κ : ℕ, cellInv ER (sched m) κ (kcell cj))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun cj : Dev nD × Fin 17 => (reached ER (kcell cj) 0 : sProp 𝕄))]
  iintro ⟨HI, ⟨Hat, HR⟩, Htok⟩
  ihave HK := (BI.bigSep_exists_pi Finset.univ (fun (cj : Dev nD × Fin 17) (κ : ℕ) => (cellInv ER (sched m) κ (kcell cj) : sProp 𝕄))) $$ HI
  icases HK with ⟨%K, HI⟩
  ihave Hp := (deal (F := F)) $$ Htok
  iapply ((share_out m K fun c => iprop((bigSep Finset.univ fun k : Fin 17 => atPos ER (kcell (c, k)) 0 ∅ 0) ∗ pays c)).trans
    (bigSep_mono fun c _ => (sep_mono_right (mine_intro c)).trans (by
      unfold G'; iintro H; iexists K; iexact H)))
  isplitl [HI HR]
  · unfold records; isplitl [HI] <;> iassumption
  · rw [bigSep_sep']
    isplitl [Hat] <;> iassumption

theorem common : (bigSep Finset.univ fun c => iprop(ownSems c ∗ unscopedSems0 c ∗ G m c) : sProp 𝕄) ⊢ |={Set.univ}=> bigSep Finset.univ (G' m) :=
  ((bigSep_mono fun c _ => open_cells m c).trans (bigSep_fupd _ _)).trans (BI.fupd_mono (regroup m))

/-! ## The credits at launch -/

theorem bar_eq {a b : Dev nD} : barC a = barC b ↔ a = b :=
  ⟨fun h => congrArg (fun g : GSem nD τ sig => g.1.1) h, fun h => h ▸ rfl⟩
theorem rcv_eq {a b : Dev nD} {h k : Fin 7} : rcvC a h = rcvC b k ↔ a = b ∧ h = k := by
  constructor
  · intro e
    refine ⟨congrArg (fun g : GSem nD τ sig => g.1.1) e, ?_⟩
    have h2 : (SemLoc.dma (dq (rcvJ h)) : SemLoc sig) = .dma (dq (rcvJ k)) := congrArg Prod.snd e
    have h3 := congrArg Fin.val (SemLoc.dma.inj h2)
    exact Fin.ext (by have e1 : (dq (rcvJ h)).val = h.val + 7 + 3 := rfl; have e2 : (dq (rcvJ k)).val = k.val + 7 + 3 := rfl; omega)
  · rintro ⟨rfl, rfl⟩; rfl
theorem rgt_eq {c d : Dev nD} : c = rgt d ↔ d = lft c := ⟨fun h => by rw [h, lft_rgt], fun h => by rw [h, rgt_lft]⟩
theorem lft_eq {c d : Dev nD} : c = lft d ↔ d = rgt c := ⟨fun h => by rw [h, rgt_lft], fun h => by rw [h, lft_rgt]⟩
theorem rcv_ne_bar {a b : Dev nD} {h : Fin 7} : rcvC a h ≠ barC b := fun e => nomatch (congrArg Prod.snd e : (SemLoc.dma (dq (rcvJ h)) : SemLoc sig) = .reg barS)

theorem owed_apply (d : Dev nD) (g : GSem nD τ sig) : owed d 0 g () = ∑ k : Fin 7, if g = rcvC (rgt d) k then NS else 0 := by
  unfold owed
  rw [Finset.filter_true_of_mem fun h _ => Nat.zero_le _, Finset.sum_apply, Finsupp.finsetSum_apply]
  exact Finset.sum_congr rfl fun k _ => by rw [tallyAt_apply]; simp only [and_true]

theorem owes_bar (d c : Dev nD) : owed₀ d (barC c) () = (if d = lft c then 1 else 0) + (if d = rgt c then 1 else 0) := by
  unfold owed₀ owedL
  rw [Pi.add_apply, Finsupp.add_apply, Pi.add_apply, Finsupp.add_apply, tallyAt_apply, tallyAt_apply, owed_apply,
    Finset.sum_eq_zero fun k _ => if_neg fun e => rcv_ne_bar e.symm, Nat.zero_add]
  simp only [bar_eq, and_true]
  exact congrArg₂ (· + ·) (if_congr rgt_eq rfl rfl) (if_congr lft_eq rfl rfl)
theorem owes_rcv (d c : Dev nD) (h : Fin 7) : owed₀ d (rcvC c h) () = if d = lft c then NS else 0 := by
  unfold owed₀ owedL
  rw [Pi.add_apply, Finsupp.add_apply, Pi.add_apply, Finsupp.add_apply, tallyAt_apply, tallyAt_apply, owed_apply,
    if_neg fun e => rcv_ne_bar e.1, if_neg fun e => rcv_ne_bar e.1]
  show (∑ k : Fin 7, if rcvC c h = rcvC (rgt d) k then NS else 0) = _
  simp only [rcv_eq, rgt_eq]
  by_cases hd : d = lft c
  · simp only [hd, true_and, if_true]
    rw [Finset.sum_ite_eq Finset.univ h fun _ => NS, if_pos (Finset.mem_univ _)]
  · simp only [hd, false_and, if_false, Finset.sum_const_zero]

theorem credit_bar (c : Dev nD) :
    tallyOn (barC c) (launchCredit (Pipeline.owing owed₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owes_bar d c, Finset.sum_add_distrib,
    Finset.sum_ite_eq' Finset.univ (lft c) fun _ => 1, Finset.sum_ite_eq' Finset.univ (rgt c) fun _ => 1, if_pos (Finset.mem_univ _), if_pos (Finset.mem_univ _)]
theorem credit_rcv (c : Dev nD) (h : Fin 7) :
    tallyOn (rcvC c h) (launchCredit (Pipeline.owing owed₀) 0 (rcvC c h)) = (tallyAt (rcvC c h) () NS : CellTallies nD τ sig Unit) := by
  unfold tallyAt; refine congrArg _ (Finsupp.ext fun u => ?_); cases u
  rw [Pipeline.launchCredit_owing, Finsupp.single_eq_same, Finset.sum_congr rfl fun d _ => owes_rcv d c h,
    Finset.sum_ite_eq' Finset.univ (lft c) fun _ => NS, if_pos (Finset.mem_univ _)]

def rcvSems : Finset (SemLoc sig) := Finset.univ.map ⟨fun h : Fin 7 => (SemLoc.dma (dq (rcvJ h)) : SemLoc sig), by decide⟩

theorem credits (c : Dev nD) : (Pipeline.launchCred owed₀ c : sProp 𝕄)
    ⊢ iprop(cred (tallyAt (barC c) () 2) ∗ bigSep Finset.univ fun h : Fin 7 => cred (tallyAt (rcvC c h) () NS)) := by
  unfold Pipeline.launchCred
  rw [bigSep_univ_at _ (SemLoc.reg barS), credit_bar]
  refine sep_mono_right ?_
  rw [BI.bigSep_sdiff_split (show rcvSems ⊆ Finset.univ.erase (SemLoc.reg barS) from fun x hx => by
    obtain ⟨h, -, rfl⟩ := Finset.mem_map.mp hx
    exact Finset.mem_erase.mpr ⟨(fun e => nomatch e), Finset.mem_univ _⟩)]
  refine sep_elim_left.trans ?_
  unfold rcvSems
  rw [bigSep_map]
  exact bigSep_mono fun h _ => Entails.of_eq (congrArg cred (credit_rcv c h))

/-! ## The run -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (credits (F := F) c) $$ Hcr
  imodintro
  unfold start G' arrays
  isplitl
  · isplitl [HG]; · iexact HG
    isplitl [Hc]; · iexact Hc
    isplitl [Hlev]; · iexact Hlev
    iexact Ha
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ pads
  iintro ⟨Hs, -, Hr⟩
  isplitl [Hs]; · iexact Hs
  iexact Hr

/-- What a device still holds at the end beside its windows: the barrier at zero, and the arrays it copied from. -/
def left (c : Dev nD) : sProp 𝕄 := iprop(unscopedSems0 c ∗ arrays m c)

theorem leave (c : Dev nD) : (dats m ρ 0 c).Φ (Fin.last cfg0.N) ⊢ iprop(left m c ∗ ownSems c ∗ Pipeline.scopedRest cfg0.spec c) := by
  rw [show (dats m ρ 0 c).Φ (Fin.last cfg0.N) = Φ₁ m c from rfl, scopedRest0_eq, ownSems_eq]
  unfold Φ₁ left pads; rw [barSem_eq]
  iintro ⟨Hr, HS, HB, Ha⟩
  isplitl [HB Ha]
  · isplitl [HB] <;> iassumption
  isplitl [HS]; · iexact HS
  iexact Hr

theorem stage_waits (c : Dev nD) : (levAts L lv : sProp 𝕄) ⊢ Pipeline.cellsWaits cfgs (dats m ρ) () 0 c :=
  Pipeline.cellsWaits_intro cfgs (dats m ρ) () 0 c fun w s t =>
    may_stage c _ (by fin_cases w <;> fin_cases s <;> decide) _ (by
      rcases t with ⟨_ | _, ht⟩
      · exact Or.inl rfl
      · exact Or.inr rfl)

/-- What is read off memory at the end beside the windows' arrays. -/
def Read (c : Dev nD) (s : MemSt nD τ sig (Elt F)) : Prop :=
  (∀ sm : SemLoc sig, sm.isScoped .tc = false → s.sem ((c.tc : Thread nD τ), sm) = 0)
    ∧ s.mem (a0L c) = m (a0L c) ∧ s.mem (a2L c) = m (a2L c) ∧ s.mem (a3L c) = m (a3L c)

theorem reads (c : Dev nD) (s' : Phys nD τ sig (Elt F)) : iprop(left m c ∗ emp ∗ SI s') ⊢ (|={Set.univ}=> iprop(⌜Read m c s'.mem⌝ ∗ SI s') : sProp 𝕄) := by
  unfold left arrays
  iintro ⟨⟨Hu, H0, H2, H3⟩, -, HSI⟩
  ihave %h0 := (SI_pointsTo_agree (st := s') (ℓ := a0L c) (I := Finset.univ) (q := fullShare) (f := m (a0L c))) $$ [HSI H0]
  · isplitl [HSI] <;> iassumption
  ihave %h2 := (SI_pointsTo_agree (st := s') (ℓ := a2L c) (I := Finset.univ) (q := fullShare) (f := m (a2L c))) $$ [HSI H2]
  · isplitl [HSI] <;> iassumption
  ihave %h3 := (SI_pointsTo_agree (st := s') (ℓ := a3L c) (I := Finset.univ) (q := fullShare) (f := m (a3L c))) $$ [HSI H3]
  · isplitl [HSI] <;> iassumption
  imod (Pipeline.unscopedSems0_read (X := unscopedSems0 c) (c := c) fupd_intro s') $$ [Hu HSI] with ⟨%hz, HSI⟩
  · isplitl [Hu] <;> iassumption
  imodintro
  isplitr
  · ipureintro
    exact ⟨hz, Buf.eq_of_forall_mem_univ h0, Buf.eq_of_forall_mem_univ h2, Buf.eq_of_forall_mem_univ h3⟩
  iexact HSI

/-- The end of a run: every window's array as computed, the other arrays unchanged, every semaphore at zero. -/
def End (r : PUnit × MemSt nD τ sig (Elt F)) : Prop :=
  (∀ c : Dev nD, (∀ w, r.2.mem ((cfg0.win w).arr.view.loc (c : Thread nD τ)) = (dats m ρ 0 c).arrAt w cfg0.N) ∧ Read m c r.2) ∧ r.2.sem = fun _ => 0

theorem run_main : θ_run defs (onTc (τ := τ) (main (F := F))) (s₀ m ρ) (End m ρ) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := owed₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := common m)
    (hA := fun _ _ => rfl) (hpf := fun _ k => k.elim0)
    (X := start m) (Y := left m) (Z := fun _ => iprop(emp))
    (hX := start_intro m ρ) (hin := enter m ρ) (hout := leave m ρ)
    (QY := Read m) (hY := reads m)
    (hQ := fun _ h hs => ⟨fun c => ⟨(h c).1, (h c).2.2⟩, sem_eq_zero hs fun c => (h c).2.2.1⟩)

end Cert.Ring

end
-- ==== Proof.Runs.lean ====
/- What a run of the kernel leaves, read off the launch's end: the arguments unchanged, the result as computed, all
   semaphores at zero. -/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (ρ : Dev nD → PrngReg)

/-- The five arguments are as they were. -/
def Unchanged (s : MemSt nD τ sig (Elt F)) (c : Dev nD) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

theorem end_unchanged {r : PUnit × MemSt nD τ sig (Elt F)} (h : End m ρ r) (c : Dev nD) : Unchanged m r.2 c := by
  obtain ⟨hw, -, h0, h2, h3⟩ := h.1 c
  exact ⟨h0, (hw 0).trans ((dats m ρ 0 c).arrAt_in (0 : Fin 3) rfl _), h2, h3, (hw 1).trans ((dats m ρ 0 c).arrAt_in (1 : Fin 3) rfl _)⟩

theorem run_frame : θ_run defs (onTc (τ := τ) (main (F := F))) ⟨m, fun _ => 0, ρ⟩ (fun r => (∀ c, Unchanged m r.2 c) ∧ r.2.sem = fun _ => 0) :=
  (θ_run _ _ _).mono (fun _ h => ⟨fun c => end_unchanged m ρ h c, h.2⟩) (run_main m ρ)

end Cert.Ring

namespace Cert.Ring

open Idealize.ShloMosaic Idealize.ShloMosaic.TcCoe Idealize.SL.Sem

theorem frame_ideal : Cert.quiescent_KernelIdeal := fun m ρ _ => run_frame m ρ
/-- The kernel as printed is the same text: its body, -/
theorem same_body : Cert.Kernel.cc0_body (F := Bits) = Cert.KernelIdeal.cc0_body (F := Bits) := rfl
/-- its table of bodies, -/
theorem same_bodies : Cert.Kernel.defs₀ (F := Bits) = Cert.KernelIdeal.defs₀ (F := Bits) := by
  unfold Cert.Kernel.defs₀ Cert.KernelIdeal.defs₀
  refine congrArg Defs.onTc (funext fun l => funext fun p => ?_)
  match l, p with
  | ⟨0, _⟩, (t, s) => rfl
  | ⟨_ + 1, h⟩, _ => exact absurd h (by omega)
theorem same_defs : Cert.Kernel.defs (F := Bits) = Cert.KernelIdeal.defs (F := Bits) := congrArg (Pipeline.defs Cert.KernelIdeal.pcfgs) same_bodies
/-- so it runs alike. -/
theorem frame_kernel : Cert.quiescent_Kernel := fun m ρ _ => by
  rw [same_defs]
  exact run_frame (F := Bits) m ρ

/-- The reference runs on one device and has no semaphore but that one's. -/
theorem frame_reference : Cert.quiescent_ReferenceIdeal := fun m ρ _ =>
  (θ_run _ _ _).mono (fun r h => ⟨fun c => (h c).2, sem_eq_zero_of_no_sems rfl r.2⟩) (Cert.ReferenceIdeal.Value.run (F := Ideal) m ρ)

end Cert.Ring

end
-- ==== Proof.KerRead.lean ====
/- The kernel's result over the extended reals, read at an index as sums: the scaled queries, the keys and values of a
   class as one table each, the attention of a block over them, the projection. -/
module

public import proofs.«01_k».proof.Proof.Fill
public import Idealize.ShloMosaic.Lib.Pointwise
@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The word of minus infinity. -/
theorem least_word : Ideal.ofBits .f32 0xFF800000#32 = ⊥ := by
  simp [Ideal.ofBits, Ideal.ieee]

/-! ## Attention of one block over tables of keys and values -/

/-- The scores of queries `q` against keys `kk`. -/
def tally (q : FVec Ideal S128x64 .bf16) (kk : FVec Ideal S1024x64 .bf16) : FVec Ideal S128x1024 .f32 :=
  matmul dot_S128x64_S1024x64_S128x1024_1_1_0_0_n_n none q kk (constant S128x1024 .f32 0x00000000#32)

/-- The exponentials of scores `s` less their row's largest. -/
def raised (s : FVec Ideal S128x1024 .f32) : FVec Ideal S128x1024 .f32 :=
  exp (subf s (broadcastTo S128x1024 (shapeCast S128x1 (multiReduction .maximumf [1] S128 s 0xFF800000#32 reduces_S128x1024_S128 (.inl rfl) rfl) shapeCasts_S128_S128x1)
    broadcasts_S128x1_S128x1024))

/-- Exponentials over their row's sum. -/
def shares (e : FVec Ideal S128x1024 .f32) : FVec Ideal S128x1024 .f32 :=
  divf e (broadcastTo S128x1024 (shapeCast S128x1 (multiReduction .add [1] S128 e 0x00000000#32 reduces_S128x1024_S128 (.inl rfl) rfl) shapeCasts_S128_S128x1)
    broadcasts_S128x1_S128x1024)

/-- Values `vv` summed with weights `w`. -/
def blend (w : FVec Ideal S128x1024 .f32) (vv : FVec Ideal S1024x64 .bf16) : FVec Ideal S128x64 .bf16 :=
  truncf .bf16 (matmul dot_S128x1024_S1024x64_S128x64_1_0_0_1_n_n none (truncf .bf16 w bitsLt_bf16_f32) vv (constant S128x64 .f32 0x00000000#32)) bitsLt_bf16_f32

theorem tally_at (q : FVec Ideal S128x64 .bf16) (kk : FVec Ideal S1024x64 .bf16) (r : Fin 128) (j : Fin 1024) :
    tally q kk (ix2 r j) = ∑ d : Fin 64, q (ix2 r d) * kk (ix2 j d) := by
  pointwise [tally]

theorem raised_at (s : FVec Ideal S128x1024 .f32) (r : Fin 128) (j : Fin 1024) :
    raised s (ix2 r j) = Ideal.exp (s (ix2 r j) - Finset.univ.fold max ⊥ fun l : Fin 1024 => s (ix2 r l)) := by
  pointwise [raised]
  exact congrArg (fun t => Ideal.exp (s (ix2 r j) - Finset.fold max t (fun l : Fin 1024 => s (ix2 r l)) Finset.univ)) least_word

theorem shares_at (e : FVec Ideal S128x1024 .f32) (r : Fin 128) (j : Fin 1024) :
    shares e (ix2 r j) = Ideal.div (e (ix2 r j)) (∑ l : Fin 1024, e (ix2 r l)) := by
  pointwise [shares]

theorem blend_at (w : FVec Ideal S128x1024 .f32) (vv : FVec Ideal S1024x64 .bf16) (r : Fin 128) (d : Fin 64) :
    blend w vv (ix2 r d) = ∑ j : Fin 1024, w (ix2 r j) * vv (ix2 j d) := by
  pointwise [blend]

/-! ## The tables -/

/-- Two query blocks, one under the other. -/
abbrev pair (q0 q1 : Vec Ideal S1x1x64x64 .bf16) : FVec Ideal S128x64 .bf16 := k0_pay3 q0 q1
/-- Eight pieces, one under the other. -/
def table (k : Fin 8 → Vec Ideal S1x1x1x128x64 .bf16) : FVec Ideal S1024x64 .bf16 :=
  k0_pay6 (k0_pay4 (k 0)) (k0_pay5 (k 1)) (k 2) (k 3) (k 4) (k 5) (k 6) (k 7)

theorem attTile_eq (q0 q1 : Vec Ideal S1x1x64x64 .bf16) (k v : Fin 8 → Vec Ideal S1x1x1x128x64 .bf16) :
    attTile q0 q1 k v = blend (shares (raised (tally (k0_pay3 q0 q1) (table k)))) (table v) := rfl

theorem pair_low (q0 q1 : Vec Ideal S1x1x64x64 .bf16) (r : Fin 128) (d : Fin 64) (h : r.val < 64) :
    k0_pay3 (F := Ideal) q0 q1 (ix2 r d) = q0 (ix4 0 0 ⟨r.val, h⟩ d) := by
  pointwise [k0_pay3, h]

theorem pair_high (q0 q1 : Vec Ideal S1x1x64x64 .bf16) (r : Fin 128) (d : Fin 64) (h : ¬ r.val < 64) :
    k0_pay3 (F := Ideal) q0 q1 (ix2 r d) = q1 (ix4 0 0 ⟨r.val - 64, by omega⟩ d) := by
  pointwise [k0_pay3, h]

theorem table_at (k : Fin 8 → Vec Ideal S1x1x1x128x64 .bf16) (s : Fin 8) (o : Fin 128) (d : Fin 64) :
    table k (ix2 ⟨s.val * 128 + o.val, by omega⟩ d) = k s (ix5 0 0 0 o d) := by
  have ho := o.isLt
  have e : ∀ (n : ℕ) (hn : n < 128), n = o.val → (⟨n, hn⟩ : Fin 128) = o := fun n hn h => Fin.ext h
  fin_cases s <;> pointwise [table, k0_pay6, k0_pay4, k0_pay5]
  all_goals
    repeat first
      | rw [dif_neg (by omega)]
      | rw [dif_pos (by omega)]
    try rw [e _ _ (by omega)]

/-! ## Keys and values, queries, projection -/

theorem key_at (x : Vec Ideal S2x512x8x64 .f32) (b : Fin 2) (h : Fin 8) (r : Fin 512) (d : Fin 64) :
    k0_pay51 (F := Ideal) x (ix4 b h r d) = x (ix4 b r h d) := by
  pointwise [k0_pay51]

theorem val_at (x : Vec Ideal S2x512x8x64 .f32) (b : Fin 2) (h : Fin 8) (r : Fin 512) (d : Fin 64) :
    k0_pay60 (F := Ideal) x (ix4 b h r d) = x (ix4 b r h d) := by
  pointwise [k0_pay60]

theorem query0_at (w : Vec Ideal S768x512 .f32) (x : Vec Ideal S512x768 .f32) (h : Fin 8) (r : Fin 512) (d : Fin 64) :
    k0_pay71 (F := Ideal) (k0_pay70 w x) (ix4 0 h r d)
      = (∑ f : Fin 768, x (ix2 r f) * w (ix2 f ⟨h.val * 64 + d.val, by omega⟩)) * Ideal.ofBits .f32 0x3E000000#32 := by
  pointwise [k0_pay71, k0_pay70, k0_pay69]

theorem query1_at (w : Vec Ideal S768x512 .f32) (x : Vec Ideal S512x768 .f32) (h : Fin 8) (r : Fin 512) (d : Fin 64) :
    k0_pay72 (F := Ideal) (k0_pay69 w) x (ix4 0 h r d)
      = (∑ f : Fin 768, x (ix2 r f) * w (ix2 f ⟨h.val * 64 + d.val, by omega⟩)) * Ideal.ofBits .f32 0x3E000000#32 := by
  pointwise [k0_pay72, k0_pay69]

theorem out0_at (w : Vec Ideal S512x768 .f32) (a : Vec Ideal S1x8x512x64 .bf16) (r : Fin 512) (o : Fin 768) :
    k0_pay1 (F := Ideal) (k0_pay76 w a) (ix3 0 r o)
      = ∑ f : Fin 512, a (ix4 0 ⟨f.val / 64, by omega⟩ r ⟨f.val % 64, by omega⟩) * w (ix2 f o) := by
  pointwise [k0_pay1, k0_pay76, k0_pay75]

theorem out1_at (w : Vec Ideal S512x768 .f32) (a : Vec Ideal S1x8x512x64 .bf16) (r : Fin 512) (o : Fin 768) :
    k0_pay2 (F := Ideal) (k0_pay75 w) a (ix3 0 r o)
      = ∑ f : Fin 512, a (ix4 0 ⟨f.val / 64, by omega⟩ r ⟨f.val % 64, by omega⟩) * w (ix2 f o) := by
  pointwise [k0_pay2, k0_pay75]

end Cert.Ring
-- ==== Proof.Softmax.lean ====
module

public import Idealize.ShloMosaic.Lib.Pointwise

@[expose] public section

noncomputable section

/-! A softmax over the extended reals does not see the entries at minus infinity. -/

namespace Cert.Ring

open Idealize.ShloMosaic

/-- The value is a real number. -/
def Real' (y : EReal) : Prop := ∃ r : ℝ, (r : EReal) = y

theorem Real'.mul {y z : EReal} : Real' y → Real' z → Real' (y * z) := by
  rintro ⟨a, rfl⟩ ⟨b, rfl⟩
  exact ⟨a * b, EReal.coe_mul a b⟩

theorem Real'.add {y z : EReal} : Real' y → Real' z → Real' (y + z) := by
  rintro ⟨a, rfl⟩ ⟨b, rfl⟩
  exact ⟨a + b, EReal.coe_add a b⟩

theorem Real'.sum {ι : Type} (t : Finset ι) {f : ι → EReal} (h : ∀ i, Real' (f i)) : Real' (∑ i ∈ t, f i) := by
  classical
  induction t using Finset.induction_on with
  | empty => exact ⟨0, by simp⟩
  | insert a t ha ih => rw [Finset.sum_insert ha]; exact (h a).add ih

theorem Real'.ne_bot {y : EReal} : Real' y → y ≠ ⊥ := by rintro ⟨a, rfl⟩; exact EReal.coe_ne_bot a
theorem Real'.ne_top {y : EReal} : Real' y → y ≠ ⊤ := by rintro ⟨a, rfl⟩; exact EReal.coe_ne_top a

/-- What lies below plus infinity in absolute value is a real number. -/
theorem real_of_abs_lt {y : EReal} (h : max y (-y) < ⊤) : Real' y := by
  induction y using EReal.rec with
  | bot => simp at h
  | top => simp at h
  | coe r => exact ⟨r, rfl⟩

/-- A real factor that is not negative goes into a sum. -/
theorem sum_scale {ι : Type} (t : Finset ι) (f : ι → EReal) (c : ℝ) (hc : 0 ≤ c) :
    (∑ i ∈ t, f i) * (c : EReal) = ∑ i ∈ t, f i * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- An eighth. -/
theorem eighth : Ideal.ofBits .f32 0x3E000000#32 = ((1 / 8 : ℝ) : EReal) := by
  simp [Ideal.ofBits, Ideal.ieee, -EReal.coe_mul]; norm_num

/-- The largest of a family, at least minus infinity. -/
def top {ι : Type} [Fintype ι] (s : ι → EReal) : EReal := Finset.univ.fold max ⊥ s

theorem top_eq_sup {ι : Type} [Fintype ι] (s : ι → EReal) : top s = Finset.univ.sup s := rfl

/-- The weights' exponentials are not negative. -/
theorem exp_nonneg (y : EReal) : 0 ≤ Ideal.exp y := by
  induction y using EReal.rec with
  | bot => simp
  | top => simp
  | coe r => simpa using (Real.exp_pos r).le

theorem exp_pos (y : EReal) (h : y ≠ ⊥) : 0 < Ideal.exp y := by
  induction y using EReal.rec with
  | bot => exact absurd rfl h
  | top => simp
  | coe r => simpa using Real.exp_pos r

theorem bot_sub' (y : EReal) : ⊥ - y = ⊥ := by rw [sub_eq_add_neg, EReal.bot_add]

/-- Entries at minus infinity leave the largest as it is. -/
theorem top_comp {ι κ : Type} [Fintype ι] [Fintype κ] (e : κ → ι) (s : ι → EReal) (hs : ∀ j, (∀ k, e k ≠ j) → s j = ⊥) :
    top s = top fun k => s (e k) := by
  rw [top_eq_sup, top_eq_sup]
  apply le_antisymm
  · refine Finset.sup_le fun j _ => ?_
    by_cases h : ∃ k, e k = j
    · obtain ⟨k, rfl⟩ := h
      exact Finset.le_sup (f := fun k => s (e k)) (Finset.mem_univ k)
    · rw [hs j fun k hk => h ⟨k, hk⟩]
      exact bot_le
  · exact Finset.sup_le fun k _ => Finset.le_sup (f := s) (Finset.mem_univ (e k))

/-- The softmax of `s` over `v` is that of the entries which `e` lists, all others being at minus infinity. -/
theorem softmax_comp {ι κ : Type} [Fintype ι] [Fintype κ] (e : κ → ι) (he : Function.Injective e) (s v : ι → EReal)
    (hs : ∀ j, (∀ k, e k ≠ j) → s j = ⊥) (hr : ∀ k, Real' (s (e k))) (k₀ : κ) :
    ∑ j, v j * Ideal.div (Ideal.exp (s j - top s)) (∑ l, Ideal.exp (s l - top s))
      = ∑ k, Ideal.div (Ideal.exp (s (e k) - top fun k => s (e k))) (∑ l, Ideal.exp (s (e l) - top fun k => s (e k))) * v (e k) := by
  rw [top_comp e s hs]
  generalize hM : (top fun k => s (e k)) = M
  have hM' : M ≠ ⊤ := by
    rw [← hM, top_eq_sup]
    exact ne_of_lt ((Finset.sup_lt_iff (by simp)).mpr fun k _ => lt_top_iff_ne_top.mpr (hr k).ne_top)
  have hsum : ∑ l, Ideal.exp (s l - M) = ∑ k, Ideal.exp (s (e k) - M) :=
    (Fintype.sum_of_injective e he _ _ (fun j hj => by
      rw [hs j fun k hk => hj ⟨k, hk⟩, bot_sub', Ideal.exp_bot]) fun _ => rfl).symm
  rw [hsum]
  generalize hZ : ∑ k, Ideal.exp (s (e k) - M) = Z
  have hZ' : Z ≠ 0 := by
    rw [← hZ]
    refine (lt_of_lt_of_le (exp_pos (s (e k₀) - M) ?_) (Finset.single_le_sum (fun k _ => exp_nonneg (s (e k) - M)) (Finset.mem_univ k₀))).ne'
    obtain ⟨r, hk⟩ := hr k₀
    rw [← hk]
    induction M using EReal.rec with
    | bot => simp
    | top => exact absurd rfl hM'
    | coe t => exact (EReal.coe_sub r t) ▸ EReal.coe_ne_bot _
  refine (Fintype.sum_of_injective e he _ _ (fun j hj => ?_) fun k => ?_).symm
  swap
  · exact mul_comm _ _
  rw [hs j fun k hk => hj ⟨k, hk⟩, bot_sub', Ideal.exp_bot, Ideal.div, if_neg hZ', zero_mul, mul_zero]

end Cert.Ring
-- ==== Proof.KerVal.lean ====
/- What the kernel's stages and the ring buffer hold, read off the arguments at an index. -/
module

public import proofs.«01_k».proof.Proof.KerRead
public import proofs.«01_k».proof.Proof.Softmax
@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Device `c`'s arguments. -/
abbrev xa (c : Dev nD) : FVec Ideal S2x512x768 .f32 := m ((c : Thread nD τ).loc main_arg0)
abbrev wqa (c : Dev nD) : FVec Ideal S768x512 .f32 := m ((c : Thread nD τ).loc main_arg1)
abbrev ka (c : Dev nD) : FVec Ideal S2x512x8x64 .f32 := m ((c : Thread nD τ).loc main_arg2)
abbrev va (c : Dev nD) : FVec Ideal S2x512x8x64 .f32 := m ((c : Thread nD τ).loc main_arg3)
abbrev woa (c : Dev nD) : FVec Ideal S512x768 .f32 := m ((c : Thread nD τ).loc main_arg4)

theorem wqv_eq (c : Dev nD) : wqv m c = wqa m c :=
  Memref.read_access_unit_zero (Elt Ideal) main_arg1 (off := fun a => (win0_0.index (0 : Fin 1)) a * main_arg1.ty.shape.size a)
    (funext fun a => by fin_cases a <;> decide) (fun a => by fin_cases a <;> decide) _

theorem wov_eq (c : Dev nD) : wov m c = woa m c :=
  Memref.read_access_unit_zero (Elt Ideal) main_arg4 (off := fun a => (win0_1.index (0 : Fin 1)) a * main_arg4.ty.shape.size a)
    (funext fun a => by fin_cases a <;> decide) (fun a => by fin_cases a <;> decide) _

/-- Batch `n` of an array, its own axis dropped. -/
theorem batch_at (a : FVec Ideal S2x512x768 .f32) (n : Fin 2) {off : Fin 3 → ℕ} (hoff : off = ![n.val, 0, 0]) (inb) (hc : S1x512x768.ShapeCasts S512x768) (r : Fin 512) (f : Fin 768) :
    shapeCast S512x768 (fun y : S1x512x768.Idx => a ((Rect.unit (s := S2x512x768) off S1x512x768.size inb).emb y)) hc (ix2 r f) = a (ix3 n r f) := by
  pointwise
  subst hoff
  refine congrArg a ?_
  funext k
  refine Fin.ext ((ValueKit.rect_emb_unit_val _ _ _ _ k).trans ?_)
  fin_cases k
  · rfl
  · exact Nat.zero_add _
  · exact Nat.zero_add _

theorem row0_at (c : Dev nD) (r : Fin 512) (f : Fin 768) : (row0 m c : FVec Ideal S512x768 .f32) (ix2 r f) = xa m c (ix3 0 r f) :=
  batch_at (xa m c) 0 rfl inb_S2x512x768_S1x512x768_0_0_0 (by decide) r f

theorem row1_at (c : Dev nD) (r : Fin 512) (f : Fin 768) : (row1 m c : FVec Ideal S512x768 .f32) (ix2 r f) = xa m c (ix3 1 r f) :=
  batch_at (xa m c) 1 rfl inb_S2x512x768_S1x512x768_1_0_0 (by decide) r f

/-- Row `t` of the scaled queries. -/
def askAt (c : Dev nD) (b : Fin 2) (h : Fin 8) (t : Fin 512) (d : Fin 64) : EReal :=
  (∑ f : Fin 768, xa m c (ix3 b t f) * wqa m c (ix2 f ⟨h.val * 64 + d.val, by omega⟩)) * Ideal.ofBits .f32 0x3E000000#32

theorem qAll_at (c : Dev nD) (b : Fin 2) (h : Fin 8) (t : Fin 512) (d : Fin 64) : qAll m c (ixQ b h t d) = askAt m c b h t d := by
  change qBat m c b (ix4 0 h t d) = _
  unfold qBat askAt
  fin_cases b
  · refine (query0_at _ _ h t d).trans ?_
    rw [wqv_eq]
    exact congrArg (fun y : EReal => y * _) (Finset.sum_congr rfl fun f _ => congrArg (fun y : EReal => y * _) (row0_at m c t f))
  · refine (query1_at _ _ h t d).trans ?_
    rw [wqv_eq]
    exact congrArg (fun y : EReal => y * _) (Finset.sum_congr rfl fun f _ => congrArg (fun y : EReal => y * _) (row1_at m c t f))

/-- The row of its shard at which class `s` has its `o`-th key. -/
def own (s : Fin 4) (o : Fin 128) : Fin 512 := ⟨64 * (s.val + 4 * (o.val / 64)) + o.val % 64, by omega⟩

theorem key_blk (e : Fin 8) (b : Fin 2) (h : Fin 8) (s : Fin 4) (o : Fin 128) (d : Fin 64) :
    cBlk m e b h ⟨s.val, by omega⟩ (ix5 0 0 0 o d) = ka m e (ix4 b (own s o) h d) := by
  change allC m (ixC e b h ⟨128 * s.val + o.val, by omega⟩ d) = _
  rw [allC_key m _ _ _ _ _ (by change 128 * s.val + o.val < 512; omega)]
  refine (key_at _ b h _ d).trans (congrArg (fun q => ka m e (ix4 b q h d)) (Fin.ext ?_))
  change srcRow (128 * s.val + o.val) = 64 * (s.val + 4 * (o.val / 64)) + o.val % 64
  unfold srcRow; omega

theorem val_blk (e : Fin 8) (b : Fin 2) (h : Fin 8) (s : Fin 4) (o : Fin 128) (d : Fin 64) :
    cBlk m e b h ⟨s.val + 4, by omega⟩ (ix5 0 0 0 o d) = va m e (ix4 b (own s o) h d) := by
  change allC m (ixC e b h ⟨128 * (s.val + 4) + o.val, by omega⟩ d) = _
  rw [allC_val m _ _ _ _ _ (by change ¬ 128 * (s.val + 4) + o.val < 512; omega)]
  refine (val_at _ b h _ d).trans (congrArg (fun q => va m e (ix4 b q h d)) (Fin.ext ?_))
  change srcRow (128 * (s.val + 4) + o.val - 512) = 64 * (s.val + 4 * (o.val / 64)) + o.val % 64
  unfold srcRow; omega

/-- The device and the row of its shard at which class `s` has its `j`-th key. -/
abbrev devOf (j : Fin 1024) : Fin 8 := ⟨j.val / 128, by omega⟩
abbrev ownOf (s : Fin 4) (j : Fin 1024) : Fin 512 := own s ⟨j.val % 128, Nat.mod_lt _ (by decide)⟩

theorem keys_at (b : Fin 2) (h : Fin 8) (s : Fin 4) (j : Fin 1024) (d : Fin 64) :
    table (fun e => cBlk m e b h ⟨s.val, by omega⟩) (ix2 j d) = ka m (devOf j) (ix4 b (ownOf s j) h d) := by
  have hj : j = ⟨(devOf j).val * 128 + (⟨j.val % 128, Nat.mod_lt _ (by decide)⟩ : Fin 128).val, by dsimp only; omega⟩ := Fin.ext (by dsimp only; omega)
  refine (congrArg (fun q => table (fun e => cBlk m e b h ⟨s.val, by omega⟩) (ix2 q d)) hj).trans ((table_at _ _ _ d).trans ?_)
  exact key_blk m _ b h s _ d

theorem vals_at (b : Fin 2) (h : Fin 8) (s : Fin 4) (j : Fin 1024) (d : Fin 64) :
    table (fun e => cBlk m e b h ⟨s.val + 4, by omega⟩) (ix2 j d) = va m (devOf j) (ix4 b (ownOf s j) h d) := by
  have hj : j = ⟨(devOf j).val * 128 + (⟨j.val % 128, Nat.mod_lt _ (by decide)⟩ : Fin 128).val, by dsimp only; omega⟩ := Fin.ext (by dsimp only; omega)
  refine (congrArg (fun q => table (fun e => cBlk m e b h ⟨s.val + 4, by omega⟩) (ix2 q d)) hj).trans ((table_at _ _ _ d).trans ?_)
  exact val_blk m _ b h s _ d

theorem asks_at (c : Dev nD) (b : Fin 2) (h : Fin 8) (s : Fin 4) (r : Fin 128) (d : Fin 64) :
    k0_pay3 (F := Ideal) (qBlk m c b h ⟨s.val, by omega⟩) (qBlk m c b h ⟨s.val + 4, by omega⟩) (ix2 r d) = askAt m c b h (own s r) d := by
  by_cases hr : r.val < 64
  · refine (pair_low _ _ r d hr).trans ?_
    change qAll m c (ixQ b h ⟨64 * s.val + r.val, by omega⟩ d) = _
    rw [qAll_at]
    refine congrArg (fun q => askAt m c b h q d) (Fin.ext ?_)
    change 64 * s.val + r.val = 64 * (s.val + 4 * (r.val / 64)) + r.val % 64
    omega
  · refine (pair_high _ _ r d hr).trans ?_
    change qAll m c (ixQ b h ⟨64 * (s.val + 4) + (r.val - 64), by omega⟩ d) = _
    rw [qAll_at]
    refine congrArg (fun q => askAt m c b h q d) (Fin.ext ?_)
    change 64 * (s.val + 4) + (r.val - 64) = 64 * (s.val + 4 * (r.val / 64)) + r.val % 64
    omega

/-- The score of row `t` against the class's `j`-th key. -/
def scoreAt (c : Dev nD) (b : Fin 2) (h : Fin 8) (s : Fin 4) (t : Fin 512) (j : Fin 1024) : EReal :=
  ∑ d : Fin 64, askAt m c b h t d * ka m (devOf j) (ix4 b (ownOf s j) h d)

/-- The context of row `t`: the softmax of its scores over the class's values. -/
def mixAt (c : Dev nD) (b : Fin 2) (h : Fin 8) (s : Fin 4) (t : Fin 512) (d : Fin 64) : EReal :=
  ∑ j : Fin 1024, Ideal.div (Ideal.exp (scoreAt m c b h s t j - top fun j => scoreAt m c b h s t j))
    (∑ l : Fin 1024, Ideal.exp (scoreAt m c b h s t l - top fun j => scoreAt m c b h s t j)) * va m (devOf j) (ix4 b (ownOf s j) h d)

theorem scores_eq (c : Dev nD) (b : Fin 2) (h : Fin 8) (s : Fin 4) (r : Fin 128) (j : Fin 1024) :
    tally (k0_pay3 (qBlk m c b h ⟨s.val, by omega⟩) (qBlk m c b h ⟨s.val + 4, by omega⟩)) (table (fun e => cBlk m e b h ⟨s.val, by omega⟩)) (ix2 r j)
      = scoreAt m c b h s (own s r) j := by
  rw [tally_at]
  unfold scoreAt
  refine Finset.sum_congr rfl fun d _ => ?_
  exact congrArg₂ (· * ·) (asks_at m c b h s r d) (keys_at m b h s j d)

theorem blend_eq (S : FVec Ideal S128x1024 .f32) (V : FVec Ideal S1024x64 .bf16) (r : Fin 128) (d : Fin 64) :
    blend (shares (raised S)) V (ix2 r d) = ∑ j : Fin 1024, Ideal.div (Ideal.exp (S (ix2 r j) - top fun j : Fin 1024 => S (ix2 r j)))
      (∑ l : Fin 1024, Ideal.exp (S (ix2 r l) - top fun j : Fin 1024 => S (ix2 r j))) * V (ix2 j d) := by
  rw [blend_at]
  refine Finset.sum_congr rfl fun j _ => ?_
  rw [shares_at, raised_at]
  simp only [raised_at]
  rfl

theorem tile_at (c : Dev nD) (b : Fin 2) (h : Fin 8) (s : Fin 4) (r : Fin 128) (d : Fin 64) :
    tile m c b h s (ix2 r d) = mixAt m c b h s (own s r) d := by
  unfold tile
  rw [attTile_eq, blend_eq]
  unfold mixAt
  simp only [scores_eq, vals_at]

/-- The class of row `t`. -/
abbrev classOf (t : Fin 512) : Fin 4 := ⟨t.val / 64 % 4, Nat.mod_lt _ (by decide)⟩

theorem ctx_at (c : Dev nD) (b : Fin 2) (h : Fin 8) (t : Fin 512) (d : Fin 64) : ctxAll m c (ixX b h t d) = mixAt m c b h (classOf t) t d := by
  change tile m c b h (classOf t) (ix2 ⟨64 * (t.val / 256) + t.val % 64, by omega⟩ d) = _
  rw [tile_at]
  refine congrArg (fun q => mixAt m c b h (classOf t) q d) (Fin.ext ?_)
  change 64 * (t.val / 64 % 4 + 4 * ((64 * (t.val / 256) + t.val % 64) / 64)) + (64 * (t.val / 256) + t.val % 64) % 64 = t.val
  omega

/-- The result of device `c`. -/
theorem out_at (c : Dev nD) (b : Fin 2) (t : Fin 512) (o : Fin 768) :
    (outAll m c : FVec Ideal S2x512x768 .f32) (ix3 b t o)
      = ∑ f : Fin 512, mixAt m c b ⟨f.val / 64, by omega⟩ (classOf t) t ⟨f.val % 64, by omega⟩ * woa m c (ix2 f o) := by
  change outBat m c b (ix3 0 t o) = _
  unfold outBat
  have hc : ∀ (b : Fin 2) (f : Fin 512), (ctxBat m c b : FVec Ideal S1x8x512x64 .bf16) (ix4 0 ⟨f.val / 64, by omega⟩ t ⟨f.val % 64, by omega⟩)
      = mixAt m c b ⟨f.val / 64, by omega⟩ (classOf t) t ⟨f.val % 64, by omega⟩ := fun b f => ctx_at m c b _ t _
  fin_cases b
  · refine (out0_at _ _ t o).trans ?_
    rw [wov_eq]
    exact Finset.sum_congr rfl fun f _ => congrArg (fun y : EReal => y * _) (hc 0 f)
  · refine (out1_at _ _ t o).trans ?_
    rw [wov_eq]
    exact Finset.sum_congr rfl fun f _ => congrArg (fun y : EReal => y * _) (hc 1 f)

end Cert.Ring
-- ==== Proof.RefMask.lean ====
module

public import proofs.«01_k».proof.Proof.Gen.ReferenceIdeal.Run
public import Idealize.ShloMosaic.Lib.Pointwise

@[expose] public section

set_option maxRecDepth 16384

noncomputable section

/-! The reference's mask, read at a row and a column: the column's block of 64 has the row's class. -/

namespace Cert.RefRead

open Cert.ReferenceIdeal Cert.ReferenceIdeal.Gen Idealize.ShloMosaic Idealize.ShloMosaic.TcCoe Idealize.SL.Sem

/-- The block length, as every position reads it. -/
def len : IVec S4096 32 := broadcastInDim S4096 ![] bcast_S_S4096 (id (constantI S_ 32 64#32))

/-- The block of a position: the rounding-down division of the position by 64. -/
def blockOf : IVec S4096 32 :=
  select (andi (cmpi .ne (signi (iotaInDim S4096 32 0)) (broadcastInDim S4096 ![] bcast_S_S4096 (signi (id (constantI S_ 32 64#32)))))
      (cmpi .ne (Host.remsi (iotaInDim S4096 32 0) len) (broadcastInDim S4096 ![] bcast_S_S4096 (constantI S_ 32 0#32))))
    (subi (Host.divsi (iotaInDim S4096 32 0) len) (broadcastInDim S4096 ![] bcast_S_S4096 (constantI S_ 32 1#32)))
    (Host.divsi (iotaInDim S4096 32 0) len)

/-- The blocks down a column, one per query. -/
def downs : IVec S4096x1 32 := broadcastInDim S4096x1 ![0] bcast_S4096_S4096x1_0 blockOf

/-- The blocks along a row, one per key. -/
def alongs : IVec S1x4096 32 := broadcastInDim S1x4096 ![1] bcast_S4096_S1x4096_1 blockOf

/-- The number of classes, guarded against zero. -/
def classes : IVec S_ 32 :=
  select (cmpi .eq (id (constantI S_ 32 4#32)) (constantI S_ 32 0#32)) (constantI S_ 32 1#32) (id (constantI S_ 32 4#32))

/-- The class of each query's block. -/
def downClass : IVec S4096x1 32 :=
  select (andi (cmpi .ne (cmpi .slt (Host.remsi downs (broadcastInDim S4096x1 ![] bcast_S_S4096x1 classes)) (broadcastInDim S4096x1 ![] bcast_S_S4096x1 (constantI S_ 32 0#32)))
        (broadcastInDim S4096x1 ![] bcast_S_S4096x1 (cmpi .slt classes (constantI S_ 32 0#32))))
      (cmpi .ne (Host.remsi downs (broadcastInDim S4096x1 ![] bcast_S_S4096x1 classes)) (broadcastInDim S4096x1 ![] bcast_S_S4096x1 (constantI S_ 32 0#32))))
    (addi (Host.remsi downs (broadcastInDim S4096x1 ![] bcast_S_S4096x1 classes)) (broadcastInDim S4096x1 ![] bcast_S_S4096x1 classes))
    (Host.remsi downs (broadcastInDim S4096x1 ![] bcast_S_S4096x1 classes))

/-- The class of each key's block. -/
def alongClass : IVec S1x4096 32 :=
  select (andi (cmpi .ne (cmpi .slt (Host.remsi alongs (broadcastInDim S1x4096 ![] bcast_S_S1x4096 classes)) (broadcastInDim S1x4096 ![] bcast_S_S1x4096 (constantI S_ 32 0#32)))
        (broadcastInDim S1x4096 ![] bcast_S_S1x4096 (cmpi .slt classes (constantI S_ 32 0#32))))
      (cmpi .ne (Host.remsi alongs (broadcastInDim S1x4096 ![] bcast_S_S1x4096 classes)) (broadcastInDim S1x4096 ![] bcast_S_S1x4096 (constantI S_ 32 0#32))))
    (addi (Host.remsi alongs (broadcastInDim S1x4096 ![] bcast_S_S1x4096 classes)) (broadcastInDim S1x4096 ![] bcast_S_S1x4096 classes))
    (Host.remsi alongs (broadcastInDim S1x4096 ![] bcast_S_S1x4096 classes))

/-- The mask: same block, or same class of blocks. -/
def kept : IVec S4096x4096 1 :=
  ori (cmpi .eq (broadcastInDim S4096x4096 ![0, 1] bcast_S4096x1_S4096x4096_0_1 downs) (broadcastInDim S4096x4096 ![0, 1] bcast_S1x4096_S4096x4096_0_1 alongs))
    (cmpi .eq (broadcastInDim S4096x4096 ![0, 1] bcast_S1x4096_S4096x4096_0_1 alongClass) (broadcastInDim S4096x4096 ![0, 1] bcast_S4096x1_S4096x4096_0_1 downClass))

/-- Whether a query keeps any key. -/
def anyKept : IVec S4096 1 := Host.reduce IntOp.ori kept (constantI S_ 1 0#1) reducesTo_S4096x4096_S4096_d1 h_S_

theorem blockOf_at (i : Fin 4096) : blockOf (ix1 i) = BitVec.ofNat 32 (i.val / 64) := by
  pointwise [blockOf, len]
  revert i; decide +kernel

theorem downs_at (i : Fin 4096) : downs (ix2 i 0) = BitVec.ofNat 32 (i.val / 64) := by
  pointwise [downs]
  exact blockOf_at i

theorem alongs_at (i : Fin 4096) : alongs (ix2 0 i) = BitVec.ofNat 32 (i.val / 64) := by
  pointwise [alongs]
  exact blockOf_at i

theorem downClass_at (i : Fin 4096) : downClass (ix2 i 0) = BitVec.ofNat 32 (i.val / 64 % 4) := by
  pointwise [downClass, classes, downs_at]
  revert i; decide +kernel

theorem alongClass_at (i : Fin 4096) : alongClass (ix2 0 i) = BitVec.ofNat 32 (i.val / 64 % 4) := by
  pointwise [alongClass, classes, alongs_at]
  revert i; decide +kernel

/-- Two words of small numbers compare as the numbers do. -/
theorem same_word (a b : ℕ) (ha : a < 64) (hb : b < 64) :
    IntOp.cmpi .eq (BitVec.ofNat 32 a) (BitVec.ofNat 32 b) = if a = b then 1#1 else 0#1 := by
  have h : ∀ a b : Fin 64, IntOp.cmpi .eq (BitVec.ofNat 32 a.val) (BitVec.ofNat 32 b.val) = if a.val = b.val then 1#1 else 0#1 := by
    decide +kernel
  exact h ⟨a, ha⟩ ⟨b, hb⟩

theorem kept_at (i j : Fin 4096) : kept (ix2 i j) = if i.val / 64 % 4 = j.val / 64 % 4 then 1#1 else 0#1 := by
  pointwise [kept, downs_at, alongs_at, downClass_at, alongClass_at]
  rw [same_word _ _ (by omega) (by omega), same_word _ _ (by omega) (by omega)]
  by_cases h : i.val / 64 % 4 = j.val / 64 % 4
  · rw [if_pos h, if_pos h.symm]
    split <;> decide
  · rw [if_neg (show ¬i.val / 64 = j.val / 64 from fun e => h (by rw [e])), if_neg h, if_neg fun e => h e.symm]
    decide

theorem anyKept_at (i : Fin 4096) : anyKept (ix1 i) = 1#1 := by
  pointwise [anyKept]
  rw [← Finset.insert_erase (Finset.mem_univ i), Finset.fold_insert (Finset.notMem_erase i _), kept_at, if_pos rfl]
  generalize Finset.fold IntOp.ori (0#1) (fun x => kept (ix2 i x)) _ = b
  revert b; decide

end Cert.RefRead
-- ==== Proof.RefRead.lean ====
module

public import proofs.«01_k».proof.Proof.RefMask

@[expose] public section

set_option maxRecDepth 16384

noncomputable section

/-! The reference's result, read at an index as sums over the extended reals. -/

namespace Cert.RefRead

open Cert.ReferenceIdeal Cert.ReferenceIdeal.Gen Idealize.ShloMosaic Idealize.ShloMosaic.TcCoe Idealize.SL.Sem

variable (x : FVec Ideal S2x4096x768 .f32) (wq : FVec Ideal S768x512 .f32) (k v : FVec Ideal S2x4096x8x64 .f32) (wo : FVec Ideal S512x768 .f32)

/-- The scores, masked ones at minus infinity. -/
def score : FVec Ideal S2x8x4096x4096 .f32 :=
  select (broadcastInDim S2x8x4096x4096 ![0, 1, 2, 3] bcast_S1x1x4096x4096_S2x8x4096x4096_0_1_2_3 (broadcastInDim S1x1x4096x4096 ![2, 3] bcast_S4096x4096_S1x1x4096x4096_2_3 kept))
    (mulf (Host.dotGeneral dot_S2x4096x8x64_S2x4096x8x64_S2x8x4096x4096_3_3_1_1_02_02 none
        (shapeCast S2x4096x8x64 (Host.dotGeneral dot_S2x4096x768_S768x512_S2x4096x512_2_0_01_1_n_n none x wq) shapeCasts_S2x4096x512_S2x4096x8x64) k)
      (broadcastInDim S2x8x4096x4096 ![] bcast_S_S2x8x4096x4096 (constant S_ .f32 0x3E000000#32)))
    (broadcastInDim S2x8x4096x4096 ![] bcast_S_S2x8x4096x4096 (id (constant S_ .f32 0xFF800000#32)))

/-- The exponentials of scores `s` less their row's largest. -/
def lifted (s : FVec Ideal S2x8x4096x4096 .f32) : FVec Ideal S2x8x4096x4096 .f32 :=
  Host.exp (subf s (broadcastInDim S2x8x4096x4096 ![0, 1, 2, 3] bcast_S2x8x4096x1_S2x8x4096x4096_0_1_2_3
    (broadcastInDim S2x8x4096x1 ![0, 1, 2] bcast_S2x8x4096_S2x8x4096x1_0_1_2
      (Host.reduce FloatOps.maximumf s (constant S_ .f32 0xFF800000#32) reducesTo_S2x8x4096x4096_S2x8x4096_d3 h_S_))))

/-- The rows' sums of `e`. -/
def rowSum (e : FVec Ideal S2x8x4096x4096 .f32) : FVec Ideal S2x8x4096 .f32 :=
  Host.reduceAdd e (constant S_ .f32 0x00000000#32) reducesTo_S2x8x4096x4096_S2x8x4096_d3 h_S_

/-- What the exponentials are divided by: the sum of a row that keeps a key. -/
def divisor (e : FVec Ideal S2x8x4096x4096 .f32) : FVec Ideal S2x8x4096x1 .f32 :=
  select (broadcastInDim S2x8x4096x1 ![0, 1, 2, 3] bcast_S1x1x4096x1_S2x8x4096x1_0_1_2_3 (broadcastInDim S1x1x4096x1 ![2] bcast_S4096_S1x1x4096x1_2 anyKept))
    (broadcastInDim S2x8x4096x1 ![0, 1, 2] bcast_S2x8x4096_S2x8x4096x1_0_1_2 (rowSum e))
    (broadcastInDim S2x8x4096x1 ![] bcast_S_S2x8x4096x1 (id (constant S_ .f32 0x3F800000#32)))

/-- Whether the row of an entry keeps a key. -/
def rowKept : IVec S2x8x4096x4096 1 :=
  broadcastInDim S2x8x4096x4096 ![0, 1, 2, 3] bcast_S1x1x4096x1_S2x8x4096x4096_0_1_2_3 (broadcastInDim S1x1x4096x1 ![2] bcast_S4096_S1x1x4096x1_2 anyKept)

/-- Each entry's divisor. -/
def spread (e : FVec Ideal S2x8x4096x4096 .f32) : FVec Ideal S2x8x4096x4096 .f32 :=
  broadcastInDim S2x8x4096x4096 ![0, 1, 2, 3] bcast_S2x8x4096x1_S2x8x4096x4096_0_1_2_3 (divisor e)

/-- Exponentials `e` over their row's sum. -/
def weight (e : FVec Ideal S2x8x4096x4096 .f32) : FVec Ideal S2x8x4096x4096 .f32 :=
  select rowKept (Host.divf e (spread e)) (broadcastInDim S2x8x4096x4096 ![] bcast_S_S2x8x4096x4096 (id (constant S_ .f32 0x00000000#32)))

/-- Values weighted by `w`, then projected. -/
def project (w : FVec Ideal S2x8x4096x4096 .f32) : FVec Ideal S2x4096x768 .f32 :=
  Host.dotGeneral dot_S2x4096x512_S512x768_S2x4096x768_2_0_01_1_n_n none
    (shapeCast S2x4096x512 (transpose S2x4096x8x64 [0, 3, 1, 2]
      (Host.dotGeneral dot_S2x4096x8x64_S2x8x4096x4096_S2x8x64x4096_1_3_3_2_02_01 none v w)
      transposes_S2x8x64x4096_S2x4096x8x64_0_3_1_2) shapeCasts_S2x4096x8x64_S2x4096x512) wo

/-- The reference's result is the projection of its weights' sums. -/
theorem res_eq (m : (ℓ : Loc nD τ sig) → Buf (Elt Ideal) ℓ) (c : Dev nD) :
    Value.res_main_v39 m c = project (m ((c.tc : Thread nD τ).loc main_arg3)) (m ((c.tc : Thread nD τ).loc main_arg4))
      (weight (lifted (score (m ((c.tc : Thread nD τ).loc main_arg0)) (m ((c.tc : Thread nD τ).loc main_arg1)) (m ((c.tc : Thread nD τ).loc main_arg2))))) := by
  unfold Value.res_main_v39
  rfl

/-- The word of minus infinity. -/
theorem minus_inf : Ideal.ofBits .f32 0xFF800000#32 = ⊥ := by
  simp [Ideal.ofBits, Ideal.ieee]

theorem score_at (b : Fin 2) (h : Fin 8) (i j : Fin 4096) :
    score x wq k (ix4 b h i j) = if i.val / 64 % 4 = j.val / 64 % 4 then
      (∑ d : Fin 64, (∑ f : Fin 768, x (ix3 b i f) * wq (ix2 f ⟨h.val * 64 + d.val, by omega⟩)) * k (ix4 b j h d)) * Ideal.ofBits .f32 0x3E000000#32
      else ⊥ := by
  pointwise [score, kept_at]
  split
  · rfl
  · exact minus_inf

theorem lifted_at (s : FVec Ideal S2x8x4096x4096 .f32) (b : Fin 2) (h : Fin 8) (i j : Fin 4096) :
    lifted s (ix4 b h i j) = Ideal.exp (s (ix4 b h i j) - Finset.univ.fold max ⊥ fun l : Fin 4096 => s (ix4 b h i l)) := by
  pointwise [lifted]
  exact congrArg (fun t => Ideal.exp (s (ix4 b h i j) - Finset.fold max t (fun l : Fin 4096 => s (ix4 b h i l)) Finset.univ)) minus_inf

theorem rowSum_at (e : FVec Ideal S2x8x4096x4096 .f32) (b : Fin 2) (h : Fin 8) (i : Fin 4096) :
    rowSum e (ix3 b h i) = ∑ l : Fin 4096, e (ix4 b h i l) := by
  pointwise [rowSum]

theorem divisor_at (e : FVec Ideal S2x8x4096x4096 .f32) (b : Fin 2) (h : Fin 8) (i : Fin 4096) :
    divisor e (ix4 b h i 0) = ∑ l : Fin 4096, e (ix4 b h i l) := by
  pointwise [divisor, anyKept_at]
  exact rowSum_at e b h i

theorem rowKept_at (b : Fin 2) (h : Fin 8) (i j : Fin 4096) : rowKept (ix4 b h i j) = 1#1 := by
  pointwise [rowKept, anyKept_at]

theorem spread_at (e : FVec Ideal S2x8x4096x4096 .f32) (b : Fin 2) (h : Fin 8) (i j : Fin 4096) :
    spread e (ix4 b h i j) = ∑ l : Fin 4096, e (ix4 b h i l) := by
  pointwise [spread]
  exact divisor_at e b h i

/-- A choice on a bit that is set. -/
theorem pick {s : Shape} {α : Type} (c : IVec s 1) (a b : s.Idx → α) (i : s.Idx) (h : c i = 1#1) : select c a b i = a i := by
  unfold select
  rw [h]
  rfl

theorem div_at {s : Shape} (e t : FVec Ideal s .f32) (i : s.Idx) : Host.divf e t i = Ideal.div (e i) (t i) := by
  pointwise

theorem quotient_at (e : FVec Ideal S2x8x4096x4096 .f32) (b : Fin 2) (h : Fin 8) (i j : Fin 4096) :
    Host.divf e (spread e) (ix4 b h i j) = Ideal.div (e (ix4 b h i j)) (∑ l : Fin 4096, e (ix4 b h i l)) :=
  (div_at e (spread e) (ix4 b h i j)).trans (congrArg _ (spread_at e b h i j))

theorem pick_at (e : FVec Ideal S2x8x4096x4096 .f32) (b : Fin 2) (h : Fin 8) (i j : Fin 4096) :
    weight e (ix4 b h i j) = Host.divf e (spread e) (ix4 b h i j) :=
  pick _ _ _ _ (rowKept_at b h i j)

theorem weight_at (e : FVec Ideal S2x8x4096x4096 .f32) (b : Fin 2) (h : Fin 8) (i j : Fin 4096) :
    weight e (ix4 b h i j) = Ideal.div (e (ix4 b h i j)) (∑ l : Fin 4096, e (ix4 b h i l)) :=
  (pick_at e b h i j).trans (quotient_at e b h i j)

theorem project_at (w : FVec Ideal S2x8x4096x4096 .f32) (b : Fin 2) (i : Fin 4096) (o : Fin 768) :
    project v wo w (ix3 b i o) = ∑ f : Fin 512, (∑ j : Fin 4096, v (ix4 b j ⟨f.val / 64, by omega⟩ ⟨f.val % 64, by omega⟩)
      * w (ix4 b ⟨f.val / 64, by omega⟩ i j)) * wo (ix2 f o) := by
  pointwise [project]

end Cert.RefRead
-- ==== Proof.Agree.lean ====
/- The kernel's result is the reference's: a row's masked softmax over all keys is the softmax over its class's. -/
module

public import proofs.«01_k».proof.Proof.KerVal
public import proofs.«01_k».proof.Proof.RefRead
@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Row `t` of device `c`'s shard, in the whole array. -/
abbrev glob (c : Fin 8) (t : Fin 512) : Fin 4096 := ⟨c.val * 512 + t.val, by omega⟩

/-- Where class `s` has its `j`-th key. -/
def spot (s : Fin 4) (j : Fin 1024) : Fin 4096 := glob (devOf j) (ownOf s j)

theorem spot_val (s : Fin 4) (j : Fin 1024) : (spot s j).val = j.val / 128 * 512 + (64 * (s.val + 4 * (j.val % 128 / 64)) + j.val % 128 % 64) := rfl

theorem spot_inj (s : Fin 4) : Function.Injective (spot s) := fun i j h => by
  have h' := congrArg Fin.val h
  rw [spot_val, spot_val] at h'
  exact Fin.ext (by omega)

theorem spot_class (s : Fin 4) (j : Fin 1024) : (spot s j).val / 64 % 4 = s.val := by
  rw [spot_val]; omega

theorem spot_onto (s : Fin 4) (l : Fin 4096) (h : l.val / 64 % 4 = s.val) : ∃ j, spot s j = l :=
  ⟨⟨l.val / 512 * 128 + (64 * (l.val % 512 / 256) + l.val % 64), by omega⟩, Fin.ext (by rw [spot_val]; dsimp only; omega)⟩

theorem glob_class (c : Fin 8) (t : Fin 512) : (glob c t).val / 64 % 4 = (classOf t).val := by
  change (c.val * 512 + t.val) / 64 % 4 = t.val / 64 % 4
  omega

variable (X : FVec Ideal Cert.ReferenceIdeal.S2x4096x768 .f32) (Wq : FVec Ideal Cert.ReferenceIdeal.S768x512 .f32)
  (K V : FVec Ideal Cert.ReferenceIdeal.S2x4096x8x64 .f32) (Wo : FVec Ideal Cert.ReferenceIdeal.S512x768 .f32)

/-- The devices' arguments are the whole arrays' shards. -/
structure Shards : Prop where
  x : ∀ c b t f, xa m c (ix3 b t f) = X (ix3 b (glob c t) f)
  wq : ∀ c i j, wqa m c (ix2 i j) = Wq (ix2 i j)
  k : ∀ c b t h d, ka m c (ix4 b t h d) = K (ix4 b (glob c t) h d)
  v : ∀ c b t h d, va m c (ix4 b t h d) = V (ix4 b (glob c t) h d)
  wo : ∀ c i j, woa m c (ix2 i j) = Wo (ix2 i j)

/-- Activations, query weights and keys are real numbers. -/
structure Reals : Prop where
  x : ∀ c b t f, Real' (xa m c (ix3 b t f))
  wq : ∀ c i j, Real' (wqa m c (ix2 i j))
  k : ∀ c b t h d, Real' (ka m c (ix4 b t h d))

theorem scoreAt_eq (hS : Shards m X Wq K V Wo) (c : Dev nD) (b : Fin 2) (h : Fin 8) (t : Fin 512) (j : Fin 1024) :
    Cert.RefRead.score X Wq K (ix4 b h (glob c t) (spot (classOf t) j)) = scoreAt m c b h (classOf t) t j := by
  rw [Cert.RefRead.score_at, if_pos ((glob_class c t).trans (spot_class _ j).symm), eighth, sum_scale _ _ _ (by norm_num)]
  unfold scoreAt askAt
  rw [eighth]
  refine Finset.sum_congr rfl fun d _ => ?_
  rw [hS.k, mul_right_comm]
  refine congrArg (fun y : EReal => y * _ * _) (Finset.sum_congr rfl fun f _ => ?_)
  rw [hS.x, hS.wq]

theorem scoreAt_real (hR : Reals m) (c : Dev nD) (b : Fin 2) (h : Fin 8) (s : Fin 4) (t : Fin 512) (j : Fin 1024) : Real' (scoreAt m c b h s t j) := by
  unfold scoreAt askAt
  rw [eighth]
  exact Real'.sum _ fun d => ((Real'.sum _ fun f => (hR.x _ _ _ _).mul (hR.wq _ _ _)).mul ⟨_, rfl⟩).mul (hR.k _ _ _ _ _)

theorem score_off (c : Dev nD) (b : Fin 2) (h : Fin 8) (t : Fin 512) (l : Fin 4096) (hl : ∀ j, spot (classOf t) j ≠ l) :
    Cert.RefRead.score X Wq K (ix4 b h (glob c t) l) = ⊥ := by
  rw [Cert.RefRead.score_at, if_neg]
  intro e
  obtain ⟨j, hj⟩ := spot_onto (classOf t) l (e.symm.trans (glob_class c t))
  exact hl j hj

theorem mix_eq (hS : Shards m X Wq K V Wo) (hR : Reals m) (c : Dev nD) (b : Fin 2) (h : Fin 8) (t : Fin 512) (d : Fin 64) :
    ∑ j : Fin 4096, V (ix4 b j h d) * Cert.RefRead.weight (Cert.RefRead.lifted (Cert.RefRead.score X Wq K)) (ix4 b h (glob c t) j)
      = mixAt m c b h (classOf t) t d := by
  have hw : ∀ j : Fin 4096, Cert.RefRead.weight (Cert.RefRead.lifted (Cert.RefRead.score X Wq K)) (ix4 b h (glob c t) j)
      = Ideal.div (Ideal.exp (Cert.RefRead.score X Wq K (ix4 b h (glob c t) j) - top fun l : Fin 4096 => Cert.RefRead.score X Wq K (ix4 b h (glob c t) l)))
        (∑ l : Fin 4096, Ideal.exp (Cert.RefRead.score X Wq K (ix4 b h (glob c t) l) - top fun l : Fin 4096 => Cert.RefRead.score X Wq K (ix4 b h (glob c t) l))) := fun j => by
    rw [Cert.RefRead.weight_at, Cert.RefRead.lifted_at]
    simp only [Cert.RefRead.lifted_at]
    rfl
  simp only [hw]
  refine (softmax_comp (spot (classOf t)) (spot_inj _) (fun l => Cert.RefRead.score X Wq K (ix4 b h (glob c t) l)) (fun j => V (ix4 b j h d))
    (fun l hl => score_off X Wq K c b h t l hl) (fun j => ?_) 0).trans ?_
  · change Real' (Cert.RefRead.score X Wq K (ix4 b h (glob c t) (spot (classOf t) j)))
    rw [scoreAt_eq m X Wq K V Wo hS]; exact scoreAt_real m hR c b h _ t j
  · unfold mixAt
    simp only [scoreAt_eq m X Wq K V Wo hS, hS.v]
    rfl

/-- Device `c`'s result is its shard of the reference's. -/
theorem out_eq (hS : Shards m X Wq K V Wo) (hR : Reals m) (c : Dev nD) (b : Fin 2) (t : Fin 512) (o : Fin 768) :
    (outAll m c : FVec Ideal S2x512x768 .f32) (ix3 b t o)
      = Cert.RefRead.project V Wo (Cert.RefRead.weight (Cert.RefRead.lifted (Cert.RefRead.score X Wq K))) (ix3 b (glob c t) o) := by
  refine ((out_at m c b t o).trans ?_).trans (Cert.RefRead.project_at V Wo _ b (glob c t) o).symm
  refine Finset.sum_congr (M := EReal) rfl fun f _ => ?_
  exact congrArg₂ (fun y z : EReal => y * z) (mix_eq m X Wq K V Wo hS hR c b _ t _).symm (hS.wo c f o)

end Cert.Ring
-- ==== Proof.Value.lean ====
/- The value claim: from memories that agree, finite where the precondition says, each device's result is its shard of
   the reference's. -/
module

public import proofs.«01_k».proof.Proof.Agree
public import proofs.«01_k».proof.Proof.Runs
@[expose] public section

set_option maxRecDepth 16384

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Shards -/

theorem shard3 (v : FVec Ideal Cert.ReferenceIdeal.S2x4096x768 .f32) (c : Fin 8) (b : Fin 2) (t : Fin 512) (f : Fin 768) :
    Layout.block S2x512x768 Cert.ReferenceIdeal.S2x4096x768 1 8 c v (by decide) (ix3 b t f) = v (ix3 b (glob c t) f) := by
  have h : Layout.Tiles S2x512x768 Cert.ReferenceIdeal.S2x4096x768 1 8 := by decide
  rw [Layout.block_apply c v h]
  refine congrArg v (funext fun a => Fin.ext ((h.idx_val c _ a).trans ?_))
  fin_cases a <;> rfl

theorem shard4 (v : FVec Ideal Cert.ReferenceIdeal.S2x4096x8x64 .f32) (c : Fin 8) (b : Fin 2) (t : Fin 512) (h : Fin 8) (d : Fin 64) :
    Layout.block S2x512x8x64 Cert.ReferenceIdeal.S2x4096x8x64 1 8 c v (by decide) (ix4 b t h d) = v (ix4 b (glob c t) h d) := by
  have ht : Layout.Tiles S2x512x8x64 Cert.ReferenceIdeal.S2x4096x8x64 1 8 := by decide
  rw [Layout.block_apply c v ht]
  refine congrArg v (funext fun a => Fin.ext ((ht.idx_val c _ a).trans ?_))
  fin_cases a <;> rfl

/-! ## What the precondition says -/

/-- A bit set by a comparison with plus infinity. -/
theorem below_top {y : EReal} (h : BitVec.ofBool (decide (FloatOps.absf (F := Ideal) (φ := .f32) y < Ideal.ofBits .f32 0x7F800000#32)) = 1#1) : Real' y := by
  have ht : Ideal.ofBits .f32 0x7F800000#32 = ⊤ := by simp [Ideal.ofBits, Ideal.ieee]
  rw [ht] at h
  refine real_of_abs_lt ?_
  by_contra hn
  have hn' : ¬ (FloatOps.absf (F := Ideal) (φ := .f32) y : EReal) < ⊤ := hn
  rw [decide_eq_false hn'] at h
  exact absurd h (by decide)

variable (m : (ℓ : Loc nD τ sig) → Buf (Elt Ideal) ℓ)

theorem reals_of_pre [Cert.Pre_finite_KernelIdeal.Facts] (h : Cert.Pre_KernelIdeal_finite_KernelIdeal m) : Reals m where
  x c b t f := by
    have := congrFun (h c).1 (ix3 b t f)
    pointwise [Cert.Pre_finite_KernelIdeal.fn] at this
    exact below_top this
  wq c i j := by
    have := congrFun (h c).2.1 (ix2 i j)
    pointwise [Cert.Pre_finite_KernelIdeal.fn] at this
    exact below_top this
  k c b t h' d := by
    have := congrFun (h c).2.2 (ix4 b t h' d)
    pointwise [Cert.Pre_finite_KernelIdeal.fn] at this
    exact below_top this

/-! ## The result array -/

variable (ρ : Dev nD → PrngReg)

theorem result_eq (c : Dev nD) : (dats m ρ 0 c).arrAt 2 cfg0.N = outAll m c := by
  have hr := Memref.read_access_unit_zero (Elt Ideal) main_v1 (off := fun a => (win0_2.index (0 : Fin 1)) a * main_v1.ty.shape.size a)
    (funext fun a => by fin_cases a <;> decide) (fun a => by fin_cases a <;> decide) ((dats m ρ 0 c).arrAt 2 cfg0.N)
  refine hr.symm.trans ?_
  rw [show cfg0.N = t₀.val + 1 from rfl, (dats m ρ 0 c).arrAt_succ (2 : Fin 3) t₀, if_pos (flush0_2 _)]
  exact View.read_write_univ _ _

/-! ## The claim -/

theorem value [Cert.Pre_finite_KernelIdeal.Facts] : Cert.algebraic_KernelIdeal_ReferenceIdeal_pre_finite_KernelIdeal := by
  intro m ρ m' ρ' hpre hag
  have hR := reals_of_pre m hpre
  have hS : Shards m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b t f => (congrFun (hag c).1 (ix3 b t f)).trans (shard3 _ c b t f)
      wq := fun c i j => congrFun (hag c).2.1 (ix2 i j)
      k := fun c b t h d => (congrFun (hag c).2.2.1 (ix4 b t h d)).trans (shard4 _ c b t h d)
      v := fun c b t h d => (congrFun (hag c).2.2.2.1 (ix4 b t h d)).trans (shard4 _ c b t h d)
      wo := fun c i j => congrFun (hag c).2.2.2.2 (ix2 i j) }
  refine ⟨Cert.ReferenceIdeal.Value.res_main_v39 m' 0, ?_, ?_⟩
  · refine (θ_run _ _ _).mono (fun r h c => ⟨?_, end_unchanged m ρ h c⟩) (run_main m ρ)
    refine (((h.1 c).1 2).trans (result_eq m ρ c)).trans (funext fun i => ?_)
    change S2x512x768.Idx at i
    idx_vars i
    refine (out_eq m _ _ _ _ _ hS hR c i0 i1 i2).trans ((congrFun (Cert.RefRead.res_eq m' 0) (ix3 i0 (glob c i1) i2)).symm.trans ?_)
    exact (shard3 _ c i0 i1 i2).symm
  · exact (θ_run _ _ _).mono (fun r h => h 0) (Cert.ReferenceIdeal.Value.run (F := Ideal) m' ρ')

end Cert.Ring
-- ==== Proof.lean ====
/- The claims proved: the kernel's run, read at either float model, the reference's, and the one's result against the other's. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Runs
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  Cert.Ring.frame_kernel, Cert.Ring.frame_ideal, fun m g _ => Cert.Ring.frame_ideal m g trivial,
  Cert.Ring.frame_reference, fun m g _ => Cert.Ring.frame_reference m g trivial, trivial,
  @Cert.Ring.value Cert.Pre_finite_KernelIdeal.Gen.facts⟩

end Cert.Proof

end
